-- ==== Defs.lean ====
def Pre_AsWritten (m : (ℓ : Loc Cert.AsWritten.nD Cert.AsWritten.τ Cert.AsWritten.sig) → Buf (Elt Bits) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_table [hPre_tokens_in_table : Cert.Pre_tokens_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_table [hPre_tokens_in_table : Cert.Pre_tokens_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Arithmetic (m : (ℓ : Loc Cert.Arithmetic.nD Cert.Arithmetic.τ Cert.Arithmetic.sig) → Buf (Elt Bits) ℓ) : Prop :=
  True

def Pre_ArithmeticIdeal (m : (ℓ : Loc Cert.ArithmeticIdeal.nD Cert.ArithmeticIdeal.τ Cert.ArithmeticIdeal.sig) → Buf (Elt Ideal) ℓ) : Prop :=
  True

def Pre_ArithmeticIdeal_inputs_in_range [hPre_inputs_in_range : Cert.Pre_inputs_in_range.Facts] (m : (ℓ : Loc Cert.ArithmeticIdeal.nD Cert.ArithmeticIdeal.τ Cert.ArithmeticIdeal.sig) → Buf (Elt Ideal) ℓ) : Prop :=
  ∀ c : Dev Cert.ArithmeticIdeal.nD,
    (Cert.Pre_inputs_in_range.fn (F := Ideal) (m ((c.tc : Thread Cert.ArithmeticIdeal.nD Cert.ArithmeticIdeal.τ).loc Cert.ArithmeticIdeal.main_arg0)) (m ((c.tc : Thread Cert.ArithmeticIdeal.nD Cert.ArithmeticIdeal.τ).loc Cert.ArithmeticIdeal.main_arg1)) (m ((c.tc : Thread Cert.ArithmeticIdeal.nD Cert.ArithmeticIdeal.τ).loc Cert.ArithmeticIdeal.main_arg2)) (m ((c.tc : Thread Cert.ArithmeticIdeal.nD Cert.ArithmeticIdeal.τ).loc Cert.ArithmeticIdeal.main_arg3))) = (fun _ => 1#1)

def quiescent_AsWritten [hAsWritten : Cert.AsWritten.Facts] : Prop :=
  ∀ (m : (ℓ : Loc Cert.AsWritten.nD Cert.AsWritten.τ Cert.AsWritten.sig) → Buf (Elt Bits) ℓ) (g : Dev Cert.AsWritten.nD → PrngReg), Pre_AsWritten m →
    θ_run (Cert.AsWritten.defs (F := Bits)) (onTc (τ := Cert.AsWritten.τ) (Cert.AsWritten.main (F := Bits))) ⟨m, fun _ => 0, g⟩ (fun r => (∀ c : Dev Cert.AsWritten.nD,
      r.2.mem ((c.tc : Thread Cert.AsWritten.nD Cert.AsWritten.τ).loc Cert.AsWritten.main_arg0) = m ((c.tc : Thread Cert.AsWritten.nD Cert.AsWritten.τ).loc Cert.AsWritten.main_arg0)
      ∧ r.2.mem ((c.tc : Thread Cert.AsWritten.nD Cert.AsWritten.τ).loc Cert.AsWritten.main_arg1) = m ((c.tc : Thread Cert.AsWritten.nD Cert.AsWritten.τ).loc Cert.AsWritten.main_arg1)
      ∧ r.2.mem ((c.tc : Thread Cert.AsWritten.nD Cert.AsWritten.τ).loc Cert.AsWritten.main_arg2) = m ((c.tc : Thread Cert.AsWritten.nD Cert.AsWritten.τ).loc Cert.AsWritten.main_arg2)
      ∧ r.2.mem ((c.tc : Thread Cert.AsWritten.nD Cert.AsWritten.τ).loc Cert.AsWritten.main_arg3) = m ((c.tc : Thread Cert.AsWritten.nD Cert.AsWritten.τ).loc Cert.AsWritten.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_tokens_in_table [hKernelIdeal : Cert.KernelIdeal.Facts] [hPre_tokens_in_table : Cert.Pre_tokens_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_tokens_in_table [hReferenceIdeal : Cert.ReferenceIdeal.Facts] [hPre_tokens_in_table : Cert.Pre_tokens_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Arithmetic [hArithmetic : Cert.Arithmetic.Facts] : Prop :=
  ∀ (m : (ℓ : Loc Cert.Arithmetic.nD Cert.Arithmetic.τ Cert.Arithmetic.sig) → Buf (Elt Bits) ℓ) (g : Dev Cert.Arithmetic.nD → PrngReg), Pre_Arithmetic m →
    θ_run (Cert.Arithmetic.defs (F := Bits)) (onTc (τ := Cert.Arithmetic.τ) (Cert.Arithmetic.main (F := Bits))) ⟨m, fun _ => 0, g⟩ (fun r => (∀ c : Dev Cert.Arithmetic.nD,
      r.2.mem ((c.tc : Thread Cert.Arithmetic.nD Cert.Arithmetic.τ).loc Cert.Arithmetic.main_arg0) = m ((c.tc : Thread Cert.Arithmetic.nD Cert.Arithmetic.τ).loc Cert.Arithmetic.main_arg0)
      ∧ r.2.mem ((c.tc : Thread Cert.Arithmetic.nD Cert.Arithmetic.τ).loc Cert.Arithmetic.main_arg1) = m ((c.tc : Thread Cert.Arithmetic.nD Cert.Arithmetic.τ).loc Cert.Arithmetic.main_arg1)
      ∧ r.2.mem ((c.tc : Thread Cert.Arithmetic.nD Cert.Arithmetic.τ).loc Cert.Arithmetic.main_arg2) = m ((c.tc : Thread Cert.Arithmetic.nD Cert.Arithmetic.τ).loc Cert.Arithmetic.main_arg2)
      ∧ r.2.mem ((c.tc : Thread Cert.Arithmetic.nD Cert.Arithmetic.τ).loc Cert.Arithmetic.main_arg3) = m ((c.tc : Thread Cert.Arithmetic.nD Cert.Arithmetic.τ).loc Cert.Arithmetic.main_arg3))
      ∧ r.2.sem = fun _ => 0)

def quiescent_ArithmeticIdeal [hArithmeticIdeal : Cert.ArithmeticIdeal.Facts] : Prop :=
  ∀ (m : (ℓ : Loc Cert.ArithmeticIdeal.nD Cert.ArithmeticIdeal.τ Cert.ArithmeticIdeal.sig) → Buf (Elt Ideal) ℓ) (g : Dev Cert.ArithmeticIdeal.nD → PrngReg), Pre_ArithmeticIdeal m →
    θ_run (Cert.ArithmeticIdeal.defs (F := Ideal)) (onTc (τ := Cert.ArithmeticIdeal.τ) (Cert.ArithmeticIdeal.main (F := Ideal))) ⟨m, fun _ => 0, g⟩ (fun r => (∀ c : Dev Cert.ArithmeticIdeal.nD,
      r.2.mem ((c.tc : Thread Cert.ArithmeticIdeal.nD Cert.ArithmeticIdeal.τ).loc Cert.ArithmeticIdeal.main_arg0) = m ((c.tc : Thread Cert.ArithmeticIdeal.nD Cert.ArithmeticIdeal.τ).loc Cert.ArithmeticIdeal.main_arg0)
      ∧ r.2.mem ((c.tc : Thread Cert.ArithmeticIdeal.nD Cert.ArithmeticIdeal.τ).loc Cert.ArithmeticIdeal.main_arg1) = m ((c.tc : Thread Cert.ArithmeticIdeal.nD Cert.ArithmeticIdeal.τ).loc Cert.ArithmeticIdeal.main_arg1)
      ∧ r.2.mem ((c.tc : Thread Cert.ArithmeticIdeal.nD Cert.ArithmeticIdeal.τ).loc Cert.ArithmeticIdeal.main_arg2) = m ((c.tc : Thread Cert.ArithmeticIdeal.nD Cert.ArithmeticIdeal.τ).loc Cert.ArithmeticIdeal.main_arg2)
      ∧ r.2.mem ((c.tc : Thread Cert.ArithmeticIdeal.nD Cert.ArithmeticIdeal.τ).loc Cert.ArithmeticIdeal.main_arg3) = m ((c.tc : Thread Cert.ArithmeticIdeal.nD Cert.ArithmeticIdeal.τ).loc Cert.ArithmeticIdeal.main_arg3))
      ∧ r.2.sem = fun _ => 0)

def quiescent_ArithmeticIdeal_pre_inputs_in_range [hArithmeticIdeal : Cert.ArithmeticIdeal.Facts] [hPre_inputs_in_range : Cert.Pre_inputs_in_range.Facts] : Prop :=
  ∀ (m : (ℓ : Loc Cert.ArithmeticIdeal.nD Cert.ArithmeticIdeal.τ Cert.ArithmeticIdeal.sig) → Buf (Elt Ideal) ℓ) (g : Dev Cert.ArithmeticIdeal.nD → PrngReg), Pre_ArithmeticIdeal_inputs_in_range m →
    θ_run (Cert.ArithmeticIdeal.defs (F := Ideal)) (onTc (τ := Cert.ArithmeticIdeal.τ) (Cert.ArithmeticIdeal.main (F := Ideal))) ⟨m, fun _ => 0, g⟩ (fun r => (∀ c : Dev Cert.ArithmeticIdeal.nD,
      r.2.mem ((c.tc : Thread Cert.ArithmeticIdeal.nD Cert.ArithmeticIdeal.τ).loc Cert.ArithmeticIdeal.main_arg0) = m ((c.tc : Thread Cert.ArithmeticIdeal.nD Cert.ArithmeticIdeal.τ).loc Cert.ArithmeticIdeal.main_arg0)
      ∧ r.2.mem ((c.tc : Thread Cert.ArithmeticIdeal.nD Cert.ArithmeticIdeal.τ).loc Cert.ArithmeticIdeal.main_arg1) = m ((c.tc : Thread Cert.ArithmeticIdeal.nD Cert.ArithmeticIdeal.τ).loc Cert.ArithmeticIdeal.main_arg1)
      ∧ r.2.mem ((c.tc : Thread Cert.ArithmeticIdeal.nD Cert.ArithmeticIdeal.τ).loc Cert.ArithmeticIdeal.main_arg2) = m ((c.tc : Thread Cert.ArithmeticIdeal.nD Cert.ArithmeticIdeal.τ).loc Cert.ArithmeticIdeal.main_arg2)
      ∧ r.2.mem ((c.tc : Thread Cert.ArithmeticIdeal.nD Cert.ArithmeticIdeal.τ).loc Cert.ArithmeticIdeal.main_arg3) = m ((c.tc : Thread Cert.ArithmeticIdeal.nD Cert.ArithmeticIdeal.τ).loc Cert.ArithmeticIdeal.main_arg3))
      ∧ r.2.sem = fun _ => 0)

def preserves_Kernel_KernelIdeal : Prop :=
  IdealRules.named_const.Statement Cert.KernelIdeal.κ "pi" .f32 0x40490FDB#32 ((Real.pi : ℝ) : EReal)
  ∧ IdealRules.named_const.Statement Cert.KernelIdeal.κ "m1" .f32 0x44491000#32 (((4503612398652171 / 17592186044416) * Real.pi : ℝ) : EReal)
  ∧ IdealRules.named_const.Statement Cert.KernelIdeal.κ "m2" .f32 0xBB15777A#32 (((-12771281675 / 17592186044416) * Real.pi : ℝ) : EReal)

def algebraic_KernelIdeal_ReferenceIdeal_pre_tokens_in_table [hKernelIdeal : Cert.KernelIdeal.Facts] [hReferenceIdeal : Cert.ReferenceIdeal.Facts] [hPre_tokens_in_table : Cert.Pre_tokens_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Arithmetic_ArithmeticIdeal : Prop :=
  True

def holds_ArithmeticIdeal_near_the_reference_pre_inputs_in_range [hArithmeticIdeal : Cert.ArithmeticIdeal.Facts] [hPre_inputs_in_range : Cert.Pre_inputs_in_range.Facts] [hPost_near_the_reference : Cert.Post_near_the_reference.Facts] : Prop :=
  ∀ (m : (ℓ : Loc Cert.ArithmeticIdeal.nD Cert.ArithmeticIdeal.τ Cert.ArithmeticIdeal.sig) → Buf (Elt Ideal) ℓ) (g : Dev Cert.ArithmeticIdeal.nD → PrngReg), Pre_ArithmeticIdeal_inputs_in_range m →
    θ_run (Cert.ArithmeticIdeal.defs (F := Ideal)) (onTc (τ := Cert.ArithmeticIdeal.τ) (Cert.ArithmeticIdeal.main (F := Ideal))) ⟨m, fun _ => 0, g⟩ (fun r => ∀ c : Dev Cert.ArithmeticIdeal.nD,
      r.2.mem ((c.tc : Thread Cert.ArithmeticIdeal.nD Cert.ArithmeticIdeal.τ).loc Cert.ArithmeticIdeal.main_arg0) = m ((c.tc : Thread Cert.ArithmeticIdeal.nD Cert.ArithmeticIdeal.τ).loc Cert.ArithmeticIdeal.main_arg0)
      ∧ r.2.mem ((c.tc : Thread Cert.ArithmeticIdeal.nD Cert.ArithmeticIdeal.τ).loc Cert.ArithmeticIdeal.main_arg1) = m ((c.tc : Thread Cert.ArithmeticIdeal.nD Cert.ArithmeticIdeal.τ).loc Cert.ArithmeticIdeal.main_arg1)
      ∧ r.2.mem ((c.tc : Thread Cert.ArithmeticIdeal.nD Cert.ArithmeticIdeal.τ).loc Cert.ArithmeticIdeal.main_arg2) = m ((c.tc : Thread Cert.ArithmeticIdeal.nD Cert.ArithmeticIdeal.τ).loc Cert.ArithmeticIdeal.main_arg2)
      ∧ r.2.mem ((c.tc : Thread Cert.ArithmeticIdeal.nD Cert.ArithmeticIdeal.τ).loc Cert.ArithmeticIdeal.main_arg3) = m ((c.tc : Thread Cert.ArithmeticIdeal.nD Cert.ArithmeticIdeal.τ).loc Cert.ArithmeticIdeal.main_arg3)
      ∧ (Cert.Post_near_the_reference.fn (F := Ideal) (m ((c.tc : Thread Cert.ArithmeticIdeal.nD Cert.ArithmeticIdeal.τ).loc Cert.ArithmeticIdeal.main_arg0)) (m ((c.tc : Thread Cert.ArithmeticIdeal.nD Cert.ArithmeticIdeal.τ).loc Cert.ArithmeticIdeal.main_arg1)) (m ((c.tc : Thread Cert.ArithmeticIdeal.nD Cert.ArithmeticIdeal.τ).loc Cert.ArithmeticIdeal.main_arg2)) (m ((c.tc : Thread Cert.ArithmeticIdeal.nD Cert.ArithmeticIdeal.τ).loc Cert.ArithmeticIdeal.main_arg3)) (r.2.mem ((c.tc : Thread Cert.ArithmeticIdeal.nD Cert.ArithmeticIdeal.τ).loc Cert.ArithmeticIdeal.main_v12))) = (fun _ => 1#1))

def Claim : Prop :=
  ∃ (hAsWritten : Cert.AsWritten.Facts) (hKernel : Cert.Kernel.Facts) (hKernelIdeal : Cert.KernelIdeal.Facts) (hReferenceIdeal : Cert.ReferenceIdeal.Facts) (hArithmetic : Cert.Arithmetic.Facts) (hArithmeticIdeal : Cert.ArithmeticIdeal.Facts) (hPre_tokens_in_table : Cert.Pre_tokens_in_table.Facts) (hPre_inputs_in_range : Cert.Pre_inputs_in_range.Facts) (hPost_near_the_reference : Cert.Post_near_the_reference.Facts),
    quiescent_AsWritten (hAsWritten := hAsWritten)
    ∧ quiescent_Kernel (hKernel := hKernel)
    ∧ quiescent_KernelIdeal (hKernelIdeal := hKernelIdeal)
    ∧ quiescent_KernelIdeal_pre_tokens_in_table (hKernelIdeal := hKernelIdeal) (hPre_tokens_in_table := hPre_tokens_in_table)
    ∧ quiescent_ReferenceIdeal (hReferenceIdeal := hReferenceIdeal)
    ∧ quiescent_ReferenceIdeal_pre_tokens_in_table (hReferenceIdeal := hReferenceIdeal) (hPre_tokens_in_table := hPre_tokens_in_table)
    ∧ quiescent_Arithmetic (hArithmetic := hArithmetic)
    ∧ quiescent_ArithmeticIdeal (hArithmeticIdeal := hArithmeticIdeal)
    ∧ quiescent_ArithmeticIdeal_pre_inputs_in_range (hArithmeticIdeal := hArithmeticIdeal) (hPre_inputs_in_range := hPre_inputs_in_range)
    ∧ preserves_Kernel_KernelIdeal
    ∧ algebraic_KernelIdeal_ReferenceIdeal_pre_tokens_in_table (hKernelIdeal := hKernelIdeal) (hReferenceIdeal := hReferenceIdeal) (hPre_tokens_in_table := hPre_tokens_in_table)
    ∧ preserves_Arithmetic_ArithmeticIdeal
    ∧ holds_ArithmeticIdeal_near_the_reference_pre_inputs_in_range (hArithmeticIdeal := hArithmeticIdeal) (hPre_inputs_in_range := hPre_inputs_in_range) (hPost_near_the_reference := hPost_near_the_reference)
-- ==== Post_near_the_reference.lean ====
abbrev S1024x200 : Shape := ⟨2, ![1024, 200]⟩
abbrev S32x512 : Shape := ⟨2, ![32, 512]⟩
abbrev S512x512 : Shape := ⟨2, ![512, 512]⟩
abbrev S1024x200x512 : Shape := ⟨3, ![1024, 200, 512]⟩
abbrev S256 : Shape := ⟨1, ![256]⟩
abbrev S1024x99 : Shape := ⟨2, ![1024, 99]⟩
abbrev S1024x100 : Shape := ⟨2, ![1024, 100]⟩
abbrev S_ : Shape := ⟨0, ![]⟩
abbrev S1024x99x1 : Shape := ⟨3, ![1024, 99, 1]⟩
abbrev S1 : Shape := ⟨1, ![1]⟩
abbrev S1x1x1 : Shape := ⟨3, ![1, 1, 1]⟩
abbrev S1024x99x512 : Shape := ⟨3, ![1024, 99, 512]⟩
abbrev S1024x100x1 : Shape := ⟨3, ![1024, 100, 1]⟩
abbrev S1024x100x512 : Shape := ⟨3, ![1024, 100, 512]⟩
abbrev S1x1x256 : Shape := ⟨3, ![1, 1, 256]⟩
abbrev S1024x100x256 : Shape := ⟨3, ![1024, 100, 256]⟩
abbrev S1024x1 : Shape := ⟨2, ![1024, 1]⟩
abbrev S1024 : Shape := ⟨1, ![1024]⟩
abbrev S1x1 : Shape := ⟨2, ![1, 1]⟩
abbrev S1024x512 : Shape := ⟨2, ![1024, 512]⟩
abbrev S1024x1x512 : Shape := ⟨3, ![1024, 1, 512]⟩
abbrev S1024x100x1x512 : Shape := ⟨4, ![1024, 100, 1, 512]⟩
abbrev S1024x100x2x512 : Shape := ⟨4, ![1024, 100, 2, 512]⟩
abbrev S1024x200x1 : Shape := ⟨3, ![1024, 200, 1]⟩
abbrev S1024x200x256 : Shape := ⟨3, ![1024, 200, 256]⟩

class Facts : Prop where
  slicesBy_S1024x200_S1024x99_0s1_2s2 : S1024x200.SlicesBy (![0, 2] : Fin 2 → Nat) ![1, 2] S1024x99
  slicesBy_S1024x200_S1024x100_0s1_1s2 : S1024x200.SlicesBy (![0, 1] : Fin 2 → Nat) ![1, 2] S1024x100
  bcast_S_S1024x99 : S_.BroadcastsInDim S1024x99 (![] : Fin 0 → Fin S1024x99.rank)
  bcast_S1024x99_S1024x99x1_0_1 : S1024x99.BroadcastsInDim S1024x99x1 (![0, 1] : Fin 2 → Fin S1024x99x1.rank)
  bcast_S_S1024x99x1 : S_.BroadcastsInDim S1024x99x1 (![] : Fin 0 → Fin S1024x99x1.rank)
  bcast_S1_S1x1x1_2 : S1.BroadcastsInDim S1x1x1 (![2] : Fin 1 → Fin S1x1x1.rank)
  bcast_S1x1x1_S1024x99x1_0_1_2 : S1x1x1.BroadcastsInDim S1024x99x1 (![0, 1, 2] : Fin 3 → Fin S1024x99x1.rank)
  reducesTo_S1024x99x1_S1024x99_d2 : S1024x99x1.ReducesTo [2] S1024x99
  h_S_ : 0 < S_.numel
  bcast_S1024x99_S1024x99x512_0_1 : S1024x99.BroadcastsInDim S1024x99x512 (![0, 1] : Fin 2 → Fin S1024x99x512.rank)
  bcast_S_S1024x99x512 : S_.BroadcastsInDim S1024x99x512 (![] : Fin 0 → Fin S1024x99x512.rank)
  bcast_S_S1024x100 : S_.BroadcastsInDim S1024x100 (![] : Fin 0 → Fin S1024x100.rank)
  bcast_S1024x100_S1024x100x1_0_1 : S1024x100.BroadcastsInDim S1024x100x1 (![0, 1] : Fin 2 → Fin S1024x100x1.rank)
  bcast_S_S1024x100x1 : S_.BroadcastsInDim S1024x100x1 (![] : Fin 0 → Fin S1024x100x1.rank)
  bcast_S1x1x1_S1024x100x1_0_1_2 : S1x1x1.BroadcastsInDim S1024x100x1 (![0, 1, 2] : Fin 3 → Fin S1024x100x1.rank)
  reducesTo_S1024x100x1_S1024x100_d2 : S1024x100x1.ReducesTo [2] S1024x100
  bcast_S1024x100_S1024x100x512_0_1 : S1024x100.BroadcastsInDim S1024x100x512 (![0, 1] : Fin 2 → Fin S1024x100x512.rank)
  bcast_S_S1024x100x512 : S_.BroadcastsInDim S1024x100x512 (![] : Fin 0 → Fin S1024x100x512.rank)
  bcast_S256_S1x1x256_2 : S256.BroadcastsInDim S1x1x256 (![2] : Fin 1 → Fin S1x1x256.rank)
  bcast_S1024x100x1_S1024x100x256_0_1_2 : S1024x100x1.BroadcastsInDim S1024x100x256 (![0, 1, 2] : Fin 3 → Fin S1024x100x256.rank)
  bcast_S1x1x256_S1024x100x256_0_1_2 : S1x1x256.BroadcastsInDim S1024x100x256 (![0, 1, 2] : Fin 3 → Fin S1024x100x256.rank)
  concatenates_S1024x100x256_S1024x100x256_S1024x100x512_d2 : Shape.Concatenates [S1024x100x256, S1024x100x256] S1024x100x512 2
  slices_S1024x200_S1024x1_0_0 : S1024x200.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1024x512_0 : S1024.BroadcastsInDim S1024x512 (![0] : Fin 1 → Fin S1024x512.rank)
  bcast_S_S1024x512 : S_.BroadcastsInDim S1024x512 (![] : Fin 0 → Fin S1024x512.rank)
  bcast_S1024x512_S1024x1x512_0_2 : S1024x512.BroadcastsInDim S1024x1x512 (![0, 2] : Fin 2 → Fin S1024x1x512.rank)
  slices_S1024x100x512_S1024x99x512_0_0_0 : S1024x100x512.Slices ![0, 0, 0] S1024x99x512
  concatenates_S1024x1x512_S1024x99x512_S1024x100x512_d1 : Shape.Concatenates [S1024x1x512, S1024x99x512] S1024x100x512 1
  bcast_S1024x100x512_S1024x100x1x512_0_1_3 : S1024x100x512.BroadcastsInDim S1024x100x1x512 (![0, 1, 3] : Fin 3 → Fin S1024x100x1x512.rank)
  concatenates_S1024x100x1x512_S1024x100x1x512_S1024x100x2x512_d2 : Shape.Concatenates [S1024x100x1x512, S1024x100x1x512] S1024x100x2x512 2
  shapeCasts_S1024x100x2x512_S1024x200x512 : S1024x100x2x512.ShapeCasts S1024x200x512
  bcast_S1024x200_S1024x200x1_0_1 : S1024x200.BroadcastsInDim S1024x200x1 (![0, 1] : Fin 2 → Fin S1024x200x1.rank)
  bcast_S1024x200x1_S1024x200x256_0_1_2 : S1024x200x1.BroadcastsInDim S1024x200x256 (![0, 1, 2] : Fin 3 → Fin S1024x200x256.rank)
  bcast_S1x1x256_S1024x200x256_0_1_2 : S1x1x256.BroadcastsInDim S1024x200x256 (![0, 1, 2] : Fin 3 → Fin S1024x200x256.rank)
  concatenates_S1024x200x256_S1024x200x256_S1024x200x512_d2 : Shape.Concatenates [S1024x200x256, S1024x200x256] S1024x200x512 2
  bcast_S_S1024x200x512 : S_.BroadcastsInDim S1024x200x512 (![] : Fin 0 → Fin S1024x200x512.rank)
  reducesTo_S1024x200x512_S_d0_1_2 : S1024x200x512.ReducesTo [0, 1, 2] S_
  gather_S32x512_S1024x99x1_S1024x99x512_2_0_n_n_0_2_1512_wf : GatherDims.WF S32x512 S1024x99x1 S1024x99x512 [2] [0] [] [0] [] 2 ![1, 512]
  gather_S512x512_S1024x100x1_S1024x100x512_2_0_n_n_0_2_1512_wf : GatherDims.WF S512x512 S1024x100x1 S1024x100x512 [2] [0] [] [0] [] 2 ![1, 512]
  gather_S32x512_S1024x1_S1024x512_1_0_n_n_0_1_1512_wf : GatherDims.WF S32x512 S1024x1 S1024x512 [1] [0] [] [0] [] 1 ![1, 512]

variable [Facts]

def gather_S32x512_S1024x99x1_S1024x99x512_2_0_n_n_0_2_1512 : GatherDims S32x512 S1024x99x1 S1024x99x512 where
  offsetDims := [2]
  collapsedSliceDims := [0]
  operandBatchingDims := []
  startIndicesBatchingDims := []
  startIndexMap := [0]
  indexVectorDim := 2
  sliceSizes := ![1, 512]
  wf := gather_S32x512_S1024x99x1_S1024x99x512_2_0_n_n_0_2_1512_wf
def gather_S512x512_S1024x100x1_S1024x100x512_2_0_n_n_0_2_1512 : GatherDims S512x512 S1024x100x1 S1024x100x512 where
  offsetDims := [2]
  collapsedSliceDims := [0]
  operandBatchingDims := []
  startIndicesBatchingDims := []
  startIndexMap := [0]
  indexVectorDim := 2
  sliceSizes := ![1, 512]
  wf := gather_S512x512_S1024x100x1_S1024x100x512_2_0_n_n_0_2_1512_wf
def gather_S32x512_S1024x1_S1024x512_1_0_n_n_0_1_1512 : GatherDims S32x512 S1024x1 S1024x512 where
  offsetDims := [1]
  collapsedSliceDims := [0]
  operandBatchingDims := []
  startIndicesBatchingDims := []
  startIndexMap := [0]
  indexVectorDim := 1
  sliceSizes := ![1, 512]
  wf := gather_S32x512_S1024x1_S1024x512_1_0_n_n_0_1_1512_wf

noncomputable abbrev lit0 : Fin 256 → BitVec 32 := fun
  | 0 => 0x44C6F195#32 | 1 => 0x44B77946#32 | 2 => 0x44A934ED#32 | 3 => 0x449C0C95#32 | 4 => 0x448FEA2A#32 | 5 => 0x4484B94D#32 | 6 => 0x4474CE6C#32 | 7 => 0x4461C524#32
  | 8 => 0x445036CF#32 | 9 => 0x444005F6#32 | 10 => 0x4431176B#32 | 11 => 0x4423521D#32 | 12 => 0x44169EF1#32 | 13 => 0x440AE895#32 | 14 => 0x44001B60#32 | 15 => 0x43EC4A63#32
  | 16 => 0x43D9EAA0#32 | 17 => 0x43C8F8A2#32 | 18 => 0x43B957F7#32 | 19 => 0x43AAEE64#32 | 20 => 0x439DA3B8#32 | 21 => 0x439161A4#32 | 22 => 0x43861395#32 | 23 => 0x43774D21#32
  | 24 => 0x4364122F#32 | 25 => 0x4352560D#32 | 26 => 0x4341FAF5#32 | 27 => 0x4332E575#32 | 28 => 0x4324FC3A#32 | 29 => 0x431827EB#32 | 30 => 0x430C5300#32 | 31 => 0x4301699D#32
  | 32 => 0x42EEB2E1#32 | 33 => 0x42DC232E#32 | 34 => 0x42CB04FA#32 | 35 => 0x42BB3B89#32 | 36 => 0x42ACAC5C#32 | 37 => 0x429F3F02#32 | 38 => 0x4292DCF3#32 | 39 => 0x42877165#32
  | 40 => 0x4279D25A#32 | 41 => 0x4266653B#32 | 42 => 0x42547AD3#32 | 43 => 0x4243F50F#32 | 44 => 0x4234B834#32 | 45 => 0x4226AAAE#32 | 46 => 0x4219B4E6#32 | 47 => 0x420DC11D#32
  | 48 => 0x4202BB41#32 | 49 => 0x41F121A7#32 | 50 => 0x41DE6187#32 | 51 => 0x41CD16AA#32 | 52 => 0x41BD2409#32 | 53 => 0x41AE6EDF#32 | 54 => 0x41A0DE7D#32 | 55 => 0x41945C1F#32
  | 56 => 0x4188D2C5#32 | 57 => 0x417C5E25#32 | 58 => 0x4168BE58#32 | 59 => 0x4156A532#32 | 60 => 0x4145F452#32 | 61 => 0x41368FB5#32 | 62 => 0x41285D85#32 | 63 => 0x411B45ED#32
  | 64 => 0x410F32F4#32 | 65 => 0x41041057#32 | 66 => 0x40F396C6#32 | 67 => 0x40E0A5BB#32 | 68 => 0x40CF2DBF#32 | 69 => 0x40BF1182#32 | 70 => 0x40B035F9#32 | 71 => 0x40A28234#32
  | 72 => 0x4095DF33#32 | 73 => 0x408A37BF#32 | 74 => 0x407EF095#32 | 75 => 0x406B1D95#32 | 76 => 0x4058D537#32 | 77 => 0x4047F8CB#32 | 78 => 0x40386C05#32 | 79 => 0x402A14CB#32
  | 80 => 0x401CDB0A#32 | 81 => 0x4010A891#32 | 82 => 0x400568E6#32 | 83 => 0x3FF6124F#32 | 84 => 0x3FE2EFD8#32 | 85 => 0x3FD14A49#32 | 86 => 0x3FC10404#32 | 87 => 0x3FB201B7#32
  | 88 => 0x3FA42A32#32 | 89 => 0x3F976638#32 | 90 => 0x3F8BA05D#32 | 91 => 0x3F80C4DE#32 | 92 => 0x3F6D8302#32 | 93 => 0x3F5B0AF0#32 | 94 => 0x3F4A0287#32 | 95 => 0x3F3A4D2F#32
  | 96 => 0x3F2BD08A#32 | 97 => 0x3F1E7449#32 | 98 => 0x3F1221FD#32 | 99 => 0x3F06C4F8#32 | 100 => 0x3EF89452#32 | 101 => 0x3EE53FEF#32 | 102 => 0x3ED36C55#32 | 103 => 0x3EC2FB9A#32
  | 104 => 0x3EB3D224#32 | 105 => 0x3EA5D682#32 | 106 => 0x3E98F13A#32 | 107 => 0x3E8D0CA8#32 | 108 => 0x3E8214D4#32 | 109 => 0x3E6FEEB0#32 | 110 => 0x3E5D466E#32 | 111 => 0x3E4C1194#32
  | 112 => 0x3E3C3341#32 | 113 => 0x3E2D90D0#32 | 114 => 0x3E2011B3#32 | 115 => 0x3E139F41#32 | 116 => 0x3E082497#32 | 117 => 0x3DFB1CE0#32 | 118 => 0x3DE7960E#32 | 119 => 0x3DD593F2#32
  | 120 => 0x3DC4F852#32 | 121 => 0x3DB5A74E#32 | 122 => 0x3DA78730#32 | 123 => 0x3D9A8042#32 | 124 => 0x3D8E7CA9#32 | 125 => 0x3D836838#32 | 126 => 0x3D7260AE#32 | 127 => 0x3D5F87BF#32
  | 128 => 0x3D4E2601#32 | 129 => 0x3D3E1E46#32 | 130 => 0x3D2F55A7#32 | 131 => 0x3D21B353#32 | 132 => 0x3D152068#32 | 133 => 0x3D0987CB#32 | 134 => 0x3CFDAC0A#32 | 135 => 0x3CE9F246#32
  | 136 => 0x3CD7C12E#32 | 137 => 0x3CC6FA39#32 | 138 => 0x3CB7813F#32 | 139 => 0x3CA93C46#32 | 140 => 0x3C9C135C#32 | 141 => 0x3C8FF06A#32 | 142 => 0x3C84BF11#32 | 143 => 0x3C74D90E#32
  | 144 => 0x3C61CEF3#32 | 145 => 0x3C503FDB#32 | 146 => 0x3C400E4D#32 | 147 => 0x3C311F1C#32 | 148 => 0x3C235935#32 | 149 => 0x3C16A57C#32 | 150 => 0x3C0AEE9D#32 | 151 => 0x3C0020F1#32
  | 152 => 0x3BEC54A6#32 | 153 => 0x3BD9F418#32 | 154 => 0x3BC9015D#32 | 155 => 0x3BB96004#32 | 156 => 0x3BAAF5D1#32 | 157 => 0x3B9DAA91#32 | 158 => 0x3B9167F5#32 | 159 => 0x3B861968#32
  | 160 => 0x3B7757DF#32 | 161 => 0x3B641C17#32 | 162 => 0x3B525F30#32 | 163 => 0x3B420362#32 | 164 => 0x3B32ED3A#32 | 165 => 0x3B250364#32 | 166 => 0x3B182E87#32 | 167 => 0x3B0C5918#32
  | 168 => 0x3B016F3C#32 | 169 => 0x3AEEBD3F#32 | 170 => 0x3ADC2CBE#32 | 171 => 0x3ACB0DCC#32 | 172 => 0x3ABB43AB#32 | 173 => 0x3AACB3DC#32 | 174 => 0x3A9F45ED#32 | 175 => 0x3A92E354#32
  | 176 => 0x3A877747#32 | 177 => 0x3A79DD33#32 | 178 => 0x3A666F3D#32 | 179 => 0x3A54840E#32 | 180 => 0x3A43FD92#32 | 181 => 0x3A34C00E#32 | 182 => 0x3A26B1EB#32 | 183 => 0x3A19BB93#32
  | 184 => 0x3A0DC745#32 | 185 => 0x3A02C0EF#32 | 186 => 0x39F12C20#32 | 187 => 0x39DE6B30#32 | 188 => 0x39CD1F92#32 | 189 => 0x39BD2C40#32 | 190 => 0x39AE7672#32 | 191 => 0x39A0E57A#32
  | 192 => 0x39946290#32 | 193 => 0x3988D8B6#32 | 194 => 0x397C691B#32 | 195 => 0x3968C874#32 | 196 => 0x3956AE85#32 | 197 => 0x3945FCEB#32 | 198 => 0x393697A3#32 | 199 => 0x392864D5#32
  | 200 => 0x391B4CAC#32 | 201 => 0x390F392D#32 | 202 => 0x39041613#32 | 203 => 0x38F3A15B#32 | 204 => 0x38E0AF7D#32 | 205 => 0x38CF36BF#32 | 206 => 0x38BF19CF#32 | 207 => 0x38B03DA1#32
  | 208 => 0x38A28943#32 | 209 => 0x3895E5B5#32 | 210 => 0x388A3DC0#32 | 211 => 0x387EFBA8#32 | 212 => 0x386B27CB#32 | 213 => 0x3858DEA2#32 | 214 => 0x3848017A#32 | 215 => 0x38387407#32
  | 216 => 0x382A1C2E#32 | 217 => 0x381CE1DB#32 | 218 => 0x3810AEDA#32 | 219 => 0x38056EB2#32 | 220 => 0x37F61CFF#32 | 221 => 0x37E2F9B4#32 | 222 => 0x37D15360#32 | 223 => 0x37C10C66#32
  | 224 => 0x37B20972#32 | 225 => 0x37A43153#32 | 226 => 0x37976CCC#32 | 227 => 0x378BA66E#32 | 228 => 0x3780CA76#32 | 229 => 0x376D8D53#32 | 230 => 0x375B1474#32 | 231 => 0x374A0B4D#32
  | 232 => 0x373A5547#32 | 233 => 0x372BD801#32 | 234 => 0x371E7B2B#32 | 235 => 0x37122856#32 | 236 => 0x3706CAD3#32 | 237 => 0x36F89F1E#32 | 238 => 0x36E549E4#32 | 239 => 0x36D37584#32
  | 240 => 0x36C30412#32 | 241 => 0x36B3D9F4#32 | 242 => 0x36A5DDB6#32 | 243 => 0x3698F7DF#32 | 244 => 0x368D12C8#32 | 245 => 0x36821A7B#32 | 246 => 0x366FF91C#32 | 247 => 0x365D500B#32
  | 248 => 0x364C1A72#32 | 249 => 0x363C3B6D#32 | 250 => 0x362D985A#32 | 251 => 0x362018A6#32 | 252 => 0x3613A5AB#32 | 253 => 0x36082A81#32 | 254 => 0x35FB27C8#32 | 255 => 0x35E7A01D#32
  | _ => 0#32

noncomputable abbrev lit1 : Fin 256 → BitVec 32 := fun
  | 0 => 0x44C6F195#32 | 1 => 0x44B77946#32 | 2 => 0x44A934ED#32 | 3 => 0x449C0C95#32 | 4 => 0x448FEA2A#32 | 5 => 0x4484B94D#32 | 6 => 0x4474CE6C#32 | 7 => 0x4461C524#32
  | 8 => 0x445036CF#32 | 9 => 0x444005F6#32 | 10 => 0x4431176B#32 | 11 => 0x4423521D#32 | 12 => 0x44169EF1#32 | 13 => 0x440AE895#32 | 14 => 0x44001B60#32 | 15 => 0x43EC4A63#32
  | 16 => 0x43D9EAA0#32 | 17 => 0x43C8F8A2#32 | 18 => 0x43B957F7#32 | 19 => 0x43AAEE64#32 | 20 => 0x439DA3B8#32 | 21 => 0x439161A4#32 | 22 => 0x43861395#32 | 23 => 0x43774D21#32
  | 24 => 0x4364122F#32 | 25 => 0x4352560D#32 | 26 => 0x4341FAF5#32 | 27 => 0x4332E575#32 | 28 => 0x4324FC3A#32 | 29 => 0x431827EB#32 | 30 => 0x430C5300#32 | 31 => 0x4301699D#32
  | 32 => 0x42EEB2E1#32 | 33 => 0x42DC232E#32 | 34 => 0x42CB04FA#32 | 35 => 0x42BB3B89#32 | 36 => 0x42ACAC5C#32 | 37 => 0x429F3F02#32 | 38 => 0x4292DCF3#32 | 39 => 0x42877165#32
  | 40 => 0x4279D25A#32 | 41 => 0x4266653B#32 | 42 => 0x42547AD3#32 | 43 => 0x4243F50F#32 | 44 => 0x4234B834#32 | 45 => 0x4226AAAE#32 | 46 => 0x4219B4E6#32 | 47 => 0x420DC11D#32
  | 48 => 0x4202BB41#32 | 49 => 0x41F121A7#32 | 50 => 0x41DE6187#32 | 51 => 0x41CD16AA#32 | 52 => 0x41BD2409#32 | 53 => 0x41AE6EDF#32 | 54 => 0x41A0DE7D#32 | 55 => 0x41945C1F#32
  | 56 => 0x4188D2C5#32 | 57 => 0x417C5E25#32 | 58 => 0x4168BE58#32 | 59 => 0x4156A532#32 | 60 => 0x4145F452#32 | 61 => 0x41368FB5#32 | 62 => 0x41285D85#32 | 63 => 0x411B45ED#32
  | 64 => 0x410F32F4#32 | 65 => 0x41041057#32 | 66 => 0x40F396C6#32 | 67 => 0x40E0A5BB#32 | 68 => 0x40CF2DBF#32 | 69 => 0x40BF1182#32 | 70 => 0x40B035F9#32 | 71 => 0x40A28234#32
  | 72 => 0x4095DF33#32 | 73 => 0x408A37BF#32 | 74 => 0x407EF095#32 | 75 => 0x406B1D95#32 | 76 => 0x4058D537#32 | 77 => 0x4047F8CB#32 | 78 => 0x40386C05#32 | 79 => 0x402A14CB#32
  | 80 => 0x401CDB0A#32 | 81 => 0x4010A891#32 | 82 => 0x400568E6#32 | 83 => 0x3FF6124F#32 | 84 => 0x3FE2EFD8#32 | 85 => 0x3FD14A49#32 | 86 => 0x3FC10404#32 | 87 => 0x3FB201B7#32
  | 88 => 0x3FA42A32#32 | 89 => 0x3F976638#32 | 90 => 0x3F8BA05D#32 | 91 => 0x3F80C4DE#32 | 92 => 0x3F6D8302#32 | 93 => 0x3F5B0AF0#32 | 94 => 0x3F4A0287#32 | 95 => 0x3F3A4D2F#32
  | 96 => 0x3F2BD08A#32 | 97 => 0x3F1E7449#32 | 98 => 0x3F1221FD#32 | 99 => 0x3F06C4F8#32 | 100 => 0x3EF89452#32 | 101 => 0x3EE53FEF#32 | 102 => 0x3ED36C55#32 | 103 => 0x3EC2FB9A#32
  | 104 => 0x3EB3D224#32 | 105 => 0x3EA5D682#32 | 106 => 0x3E98F13A#32 | 107 => 0x3E8D0CA8#32 | 108 => 0x3E8214D4#32 | 109 => 0x3E6FEEB0#32 | 110 => 0x3E5D466E#32 | 111 => 0x3E4C1194#32
  | 112 => 0x3E3C3341#32 | 113 => 0x3E2D90D0#32 | 114 => 0x3E2011B3#32 | 115 => 0x3E139F41#32 | 116 => 0x3E082497#32 | 117 => 0x3DFB1CE0#32 | 118 => 0x3DE7960E#32 | 119 => 0x3DD593F2#32
  | 120 => 0x3DC4F852#32 | 121 => 0x3DB5A74E#32 | 122 => 0x3DA78730#32 | 123 => 0x3D9A8042#32 | 124 => 0x3D8E7CA9#32 | 125 => 0x3D836838#32 | 126 => 0x3D7260AE#32 | 127 => 0x3D5F87BF#32
  | 128 => 0x3D4E2601#32 | 129 => 0x3D3E1E46#32 | 130 => 0x3D2F55A7#32 | 131 => 0x3D21B353#32 | 132 => 0x3D152068#32 | 133 => 0x3D0987CB#32 | 134 => 0x3CFDAC0A#32 | 135 => 0x3CE9F246#32
  | 136 => 0x3CD7C12E#32 | 137 => 0x3CC6FA39#32 | 138 => 0x3CB7813F#32 | 139 => 0x3CA93C46#32 | 140 => 0x3C9C135C#32 | 141 => 0x3C8FF06A#32 | 142 => 0x3C84BF11#32 | 143 => 0x3C74D90E#32
  | 144 => 0x3C61CEF3#32 | 145 => 0x3C503FDB#32 | 146 => 0x3C400E4D#32 | 147 => 0x3C311F1C#32 | 148 => 0x3C235935#32 | 149 => 0x3C16A57C#32 | 150 => 0x3C0AEE9D#32 | 151 => 0x3C0020F1#32
  | 152 => 0x3BEC54A6#32 | 153 => 0x3BD9F418#32 | 154 => 0x3BC9015D#32 | 155 => 0x3BB96004#32 | 156 => 0x3BAAF5D1#32 | 157 => 0x3B9DAA91#32 | 158 => 0x3B9167F5#32 | 159 => 0x3B861968#32
  | 160 => 0x3B7757DF#32 | 161 => 0x3B641C17#32 | 162 => 0x3B525F30#32 | 163 => 0x3B420362#32 | 164 => 0x3B32ED3A#32 | 165 => 0x3B250364#32 | 166 => 0x3B182E87#32 | 167 => 0x3B0C5918#32
  | 168 => 0x3B016F3C#32 | 169 => 0x3AEEBD3F#32 | 170 => 0x3ADC2CBE#32 | 171 => 0x3ACB0DCC#32 | 172 => 0x3ABB43AB#32 | 173 => 0x3AACB3DC#32 | 174 => 0x3A9F45ED#32 | 175 => 0x3A92E354#32
  | 176 => 0x3A877747#32 | 177 => 0x3A79DD33#32 | 178 => 0x3A666F3D#32 | 179 => 0x3A54840E#32 | 180 => 0x3A43FD92#32 | 181 => 0x3A34C00E#32 | 182 => 0x3A26B1EB#32 | 183 => 0x3A19BB93#32
  | 184 => 0x3A0DC745#32 | 185 => 0x3A02C0EF#32 | 186 => 0x39F12C20#32 | 187 => 0x39DE6B30#32 | 188 => 0x39CD1F92#32 | 189 => 0x39BD2C40#32 | 190 => 0x39AE7672#32 | 191 => 0x39A0E57A#32
  | 192 => 0x39946290#32 | 193 => 0x3988D8B6#32 | 194 => 0x397C691B#32 | 195 => 0x3968C874#32 | 196 => 0x3956AE85#32 | 197 => 0x3945FCEB#32 | 198 => 0x393697A3#32 | 199 => 0x392864D5#32
  | 200 => 0x391B4CAC#32 | 201 => 0x390F392D#32 | 202 => 0x39041613#32 | 203 => 0x38F3A15B#32 | 204 => 0x38E0AF7D#32 | 205 => 0x38CF36BF#32 | 206 => 0x38BF19CF#32 | 207 => 0x38B03DA1#32
  | 208 => 0x38A28943#32 | 209 => 0x3895E5B5#32 | 210 => 0x388A3DC0#32 | 211 => 0x387EFBA8#32 | 212 => 0x386B27CB#32 | 213 => 0x3858DEA2#32 | 214 => 0x3848017A#32 | 215 => 0x38387407#32
  | 216 => 0x382A1C2E#32 | 217 => 0x381CE1DB#32 | 218 => 0x3810AEDA#32 | 219 => 0x38056EB2#32 | 220 => 0x37F61CFF#32 | 221 => 0x37E2F9B4#32 | 222 => 0x37D15360#32 | 223 => 0x37C10C66#32
  | 224 => 0x37B20972#32 | 225 => 0x37A43153#32 | 226 => 0x37976CCC#32 | 227 => 0x378BA66E#32 | 228 => 0x3780CA76#32 | 229 => 0x376D8D53#32 | 230 => 0x375B1474#32 | 231 => 0x374A0B4D#32
  | 232 => 0x373A5547#32 | 233 => 0x372BD801#32 | 234 => 0x371E7B2B#32 | 235 => 0x37122856#32 | 236 => 0x3706CAD3#32 | 237 => 0x36F89F1E#32 | 238 => 0x36E549E4#32 | 239 => 0x36D37584#32
  | 240 => 0x36C30412#32 | 241 => 0x36B3D9F4#32 | 242 => 0x36A5DDB6#32 | 243 => 0x3698F7DF#32 | 244 => 0x368D12C8#32 | 245 => 0x36821A7B#32 | 246 => 0x366FF91C#32 | 247 => 0x365D500B#32
  | 248 => 0x364C1A72#32 | 249 => 0x363C3B6D#32 | 250 => 0x362D985A#32 | 251 => 0x362018A6#32 | 252 => 0x3613A5AB#32 | 253 => 0x36082A81#32 | 254 => 0x35FB27C8#32 | 255 => 0x35E7A01D#32
  | _ => 0#32

def fn_where {F : FTy → Type} [FloatOps F] (arg0 : IVec S1024x99 1) (arg1 : IVec S1024x99 32) (arg2 : IVec S1024x99 32) : IVec S1024x99 32 :=
  let v0 : IVec S1024x99 32 := select arg0 arg1 arg2
  v0

def fn_take {F : FTy → Type} [FloatOps F] (arg0 : FVec F S32x512 .f32) (arg1 : IVec S1024x99 32) : FVec F S1024x99x512 .f32 :=
  let c : IVec S_ 32 := constantI S_ 32 0#32
  let v0 : IVec S1024x99 32 := broadcastInDim S1024x99 ![] bcast_S_S1024x99 c
  let v1 : IVec S1024x99 1 := cmpi .slt arg1 v0
  let c_0 : IVec S_ 32 := constantI S_ 32 32#32
  let v2 : IVec S1024x99 32 := broadcastInDim S1024x99 ![] bcast_S_S1024x99 c_0
  let v3 : IVec S1024x99 32 := addi arg1 v2
  let v4 : IVec S1024x99 32 := fn_where (F := F) v1 v3 arg1
  let v5 : IVec S1024x99x1 32 := broadcastInDim S1024x99x1 ![0, 1] bcast_S1024x99_S1024x99x1_0_1 v4
  let c_1 : IVec S1 32 := constantI S1 32 31#32
  let c_2 : IVec S_ 32 := constantI S_ 32 0#32
  let v6 : IVec S1024x99x1 32 := broadcastInDim S1024x99x1 ![] bcast_S_S1024x99x1 c_2
  let v7 : IVec S1024x99x1 1 := cmpi .sge v5 v6
  let v8 : IVec S1x1x1 32 := broadcastInDim S1x1x1 ![2] bcast_S1_S1x1x1_2 c_1
  let v9 : IVec S1024x99x1 32 := broadcastInDim S1024x99x1 ![0, 1, 2] bcast_S1x1x1_S1024x99x1_0_1_2 v8
  let v10 : IVec S1024x99x1 1 := cmpi .sle v5 v9
  let v11 : IVec S1024x99x1 1 := andi v7 v10
  let c_3 : IVec S_ 1 := constantI S_ 1 1#1
  let v12 : IVec S1024x99 1 := (fun x v => Host.reduce IntOp.andi x v reducesTo_S1024x99x1_S1024x99_d2 h_S_) v11 c_3
  let v13 : FVec F S1024x99x512 .f32 := (fun x i => Host.gather gather_S32x512_S1024x99x1_S1024x99x512_2_0_n_n_0_2_1512 x i) arg0 v5
  let v14 : IVec S1024x99x512 1 := broadcastInDim S1024x99x512 ![0, 1] bcast_S1024x99_S1024x99x512_0_1 v12
  let cst : FVec F S_ .f32 := constant S_ .f32 0x7FC00000#32
  let v15 : FVec F S1024x99x512 .f32 := broadcastInDim S1024x99x512 ![] bcast_S_S1024x99x512 cst
  let v16 : FVec F S1024x99x512 .f32 := select v14 v13 v15
  v16

def fn_where_1 {F : FTy → Type} [FloatOps F] (arg0 : IVec S1024x100 1) (arg1 : IVec S1024x100 32) (arg2 : IVec S1024x100 32) : IVec S1024x100 32 :=
  let v0 : IVec S1024x100 32 := select arg0 arg1 arg2
  v0

def fn_take_0 {F : FTy → Type} [FloatOps F] (arg0 : FVec F S512x512 .f32) (arg1 : IVec S1024x100 32) : FVec F S1024x100x512 .f32 :=
  let c : IVec S_ 32 := constantI S_ 32 0#32
  let v0 : IVec S1024x100 32 := broadcastInDim S1024x100 ![] bcast_S_S1024x100 c
  let v1 : IVec S1024x100 1 := cmpi .slt arg1 v0
  let c_0 : IVec S_ 32 := constantI S_ 32 512#32
  let v2 : IVec S1024x100 32 := broadcastInDim S1024x100 ![] bcast_S_S1024x100 c_0
  let v3 : IVec S1024x100 32 := addi arg1 v2
  let v4 : IVec S1024x100 32 := fn_where_1 (F := F) v1 v3 arg1
  let v5 : IVec S1024x100x1 32 := broadcastInDim S1024x100x1 ![0, 1] bcast_S1024x100_S1024x100x1_0_1 v4
  let c_1 : IVec S1 32 := constantI S1 32 511#32
  let c_2 : IVec S_ 32 := constantI S_ 32 0#32
  let v6 : IVec S1024x100x1 32 := broadcastInDim S1024x100x1 ![] bcast_S_S1024x100x1 c_2
  let v7 : IVec S1024x100x1 1 := cmpi .sge v5 v6
  let v8 : IVec S1x1x1 32 := broadcastInDim S1x1x1 ![2] bcast_S1_S1x1x1_2 c_1
  let v9 : IVec S1024x100x1 32 := broadcastInDim S1024x100x1 ![0, 1, 2] bcast_S1x1x1_S1024x100x1_0_1_2 v8
  let v10 : IVec S1024x100x1 1 := cmpi .sle v5 v9
  let v11 : IVec S1024x100x1 1 := andi v7 v10
  let c_3 : IVec S_ 1 := constantI S_ 1 1#1
  let v12 : IVec S1024x100 1 := (fun x v => Host.reduce IntOp.andi x v reducesTo_S1024x100x1_S1024x100_d2 h_S_) v11 c_3
  let v13 : FVec F S1024x100x512 .f32 := (fun x i => Host.gather gather_S512x512_S1024x100x1_S1024x100x512_2_0_n_n_0_2_1512 x i) arg0 v5
  let v14 : IVec S1024x100x512 1 := broadcastInDim S1024x100x512 ![0, 1] bcast_S1024x100_S1024x100x512_0_1 v12
  let cst : FVec F S_ .f32 := constant S_ .f32 0x7FC00000#32
  let v15 : FVec F S1024x100x512 .f32 := broadcastInDim S1024x100x512 ![] bcast_S_S1024x100x512 cst
  let v16 : FVec F S1024x100x512 .f32 := select v14 v13 v15
  v16

def fn_where_3 {F : FTy → Type} [FloatOps F] (arg0 : IVec S1024 1) (arg1 : IVec S1024 32) (arg2 : IVec S1024 32) : IVec S1024 32 :=
  let v0 : IVec S1024 32 := select arg0 arg1 arg2
  v0

def fn_take_2 {F : FTy → Type} [FloatOps F] (arg0 : FVec F S32x512 .f32) (arg1 : IVec S1024 32) : FVec F S1024x512 .f32 :=
  let c : IVec S_ 32 := constantI S_ 32 0#32
  let v0 : IVec S1024 32 := broadcastInDim S1024 ![] bcast_S_S1024 c
  let v1 : IVec S1024 1 := cmpi .slt arg1 v0
  let c_0 : IVec S_ 32 := constantI S_ 32 32#32
  let v2 : IVec S1024 32 := broadcastInDim S1024 ![] bcast_S_S1024 c_0
  let v3 : IVec S1024 32 := addi arg1 v2
  let v4 : IVec S1024 32 := fn_where_3 (F := F) v1 v3 arg1
  let v5 : IVec S1024x1 32 := broadcastInDim S1024x1 ![0] bcast_S1024_S1024x1_0 v4
  let c_1 : IVec S1 32 := constantI S1 32 31#32
  let c_2 : IVec S_ 32 := constantI S_ 32 0#32
  let v6 : IVec S1024x1 32 := broadcastInDim S1024x1 ![] bcast_S_S1024x1 c_2
  let v7 : IVec S1024x1 1 := cmpi .sge v5 v6
  let v8 : IVec S1x1 32 := broadcastInDim S1x1 ![1] bcast_S1_S1x1_1 c_1
  let v9 : IVec S1024x1 32 := broadcastInDim S1024x1 ![0, 1] bcast_S1x1_S1024x1_0_1 v8
  let v10 : IVec S1024x1 1 := cmpi .sle v5 v9
  let v11 : IVec S1024x1 1 := andi v7 v10
  let c_3 : IVec S_ 1 := constantI S_ 1 1#1
  let v12 : IVec S1024 1 := (fun x v => Host.reduce IntOp.andi x v reducesTo_S1024x1_S1024_d1 h_S_) v11 c_3
  let v13 : FVec F S1024x512 .f32 := (fun x i => Host.gather gather_S32x512_S1024x1_S1024x512_1_0_n_n_0_1_1512 x i) arg0 v5
  let v14 : IVec S1024x512 1 := broadcastInDim S1024x512 ![0] bcast_S1024_S1024x512_0 v12
  let cst : FVec F S_ .f32 := constant S_ .f32 0x7FC00000#32
  let v15 : FVec F S1024x512 .f32 := broadcastInDim S1024x512 ![] bcast_S_S1024x512 cst
  let v16 : FVec F S1024x512 .f32 := select v14 v13 v15
  v16

def fn_part1 {F : FTy → Type} [FloatOps F] (main_arg1 : FVec F S1024x200 .f32) (main_arg4 : FVec F S1024x200x512 .f32) (main_cst_0 : FVec F S256 .f32) (main_v20 : FVec F S1024x100x1x512 .f32) (main_v21 : FVec F S1024x100x1x512 .f32) : IVec S_ 1 :=
  let main_v22 : FVec F S1024x100x2x512 .f32 := (fun a b => concatenate S1024x100x2x512 2 [⟨S1024x100x1x512, a⟩, ⟨S1024x100x1x512, b⟩] concatenates_S1024x100x1x512_S1024x100x1x512_S1024x100x2x512_d2) main_v20 main_v21
  let main_v23 : FVec F S1024x200x512 .f32 := shapeCast S1024x200x512 main_v22 shapeCasts_S1024x100x2x512_S1024x200x512
  let main_v24 : FVec F S1024x200x1 .f32 := broadcastInDim S1024x200x1 ![0, 1] bcast_S1024x200_S1024x200x1_0_1 main_arg1
  let main_v25 : FVec F S1x1x256 .f32 := broadcastInDim S1x1x256 ![2] bcast_S256_S1x1x256_2 main_cst_0
  let main_v26 : FVec F S1024x200x256 .f32 := broadcastInDim S1024x200x256 ![0, 1, 2] bcast_S1024x200x1_S1024x200x256_0_1_2 main_v24
  let main_v27 : FVec F S1024x200x256 .f32 := broadcastInDim S1024x200x256 ![0, 1, 2] bcast_S1x1x256_S1024x200x256_0_1_2 main_v25
  let main_v28 : FVec F S1024x200x256 .f32 := Host.divf main_v26 main_v27
  let main_v29 : FVec F S1024x200x256 .f32 := Host.sin main_v28
  let main_v30 : FVec F S1024x200x256 .f32 := Host.cos main_v28
  let main_v31 : FVec F S1024x200x512 .f32 := (fun a b => concatenate S1024x200x512 2 [⟨S1024x200x256, a⟩, ⟨S1024x200x256, b⟩] concatenates_S1024x200x256_S1024x200x256_S1024x200x512_d2) main_v29 main_v30
  let main_v32 : FVec F S1024x200x512 .f32 := addf main_v23 main_v31
  let main_cst_1 : FVec F S_ .f32 := constant S_ .f32 0x3A1D4952#32
  let main_v33 : FVec F S1024x200x512 .f32 := broadcastInDim S1024x200x512 ![] bcast_S_S1024x200x512 main_cst_1
  let main_v34 : FVec F S1024x200x512 .f32 := addf main_v32 main_v33
  let main_v35 : IVec S1024x200x512 1 := cmpf .ole main_arg4 main_v34
  let main_cst_2 : FVec F S_ .f32 := constant S_ .f32 0x3A1D4952#32
  let main_v36 : FVec F S1024x200x512 .f32 := broadcastInDim S1024x200x512 ![] bcast_S_S1024x200x512 main_cst_2
  let main_v37 : FVec F S1024x200x512 .f32 := addf main_arg4 main_v36
  let main_v38 : IVec S1024x200x512 1 := cmpf .ole main_v32 main_v37
  let main_v39 : IVec S1024x200x512 1 := andi main_v35 main_v38
  let main_c : IVec S_ 1 := constantI S_ 1 1#1
  let main_v40 : IVec S_ 1 := (fun x v => Host.reduce IntOp.andi x v reducesTo_S1024x200x512_S_d0_1_2 h_S_) main_v39 main_c
  main_v40

def fn {F : FTy → Type} [FloatOps F] (main_arg0 : IVec S1024x200 32) (main_arg1 : FVec F S1024x200 .f32) (main_arg2 : FVec F S32x512 .f32) (main_arg3 : FVec F S512x512 .f32) (main_arg4 : FVec F S1024x200x512 .f32) : IVec S_ 1 :=
  let main_cst : FVec F S256 .f32 := fun i => FloatOps.ofBits .f32 (lit0 (S256.rowMajor i))
  let main_cst_0 : FVec F S256 .f32 := fun i => FloatOps.ofBits .f32 (lit1 (S256.rowMajor i))
  let main_v0 : IVec S1024x99 32 := (Host.slice S1024x99 ![0, 2] ![1, 2] · slicesBy_S1024x200_S1024x99_0s1_2s2) main_arg0
  let main_v1 : IVec S1024x100 32 := (Host.slice S1024x100 ![0, 1] ![1, 2] · slicesBy_S1024x200_S1024x100_0s1_1s2) main_arg0
  let main_v2 : FVec F S1024x99x512 .f32 := fn_take (F := F) main_arg2 main_v0
  let main_v3 : FVec F S1024x100x512 .f32 := fn_take_0 (F := F) main_arg3 main_v1
  let main_v4 : FVec F S1024x100 .f32 := sitofp .f32 main_v1
  let main_v5 : FVec F S1024x100x1 .f32 := broadcastInDim S1024x100x1 ![0, 1] bcast_S1024x100_S1024x100x1_0_1 main_v4
  let main_v6 : FVec F S1x1x256 .f32 := broadcastInDim S1x1x256 ![2] bcast_S256_S1x1x256_2 main_cst
  let main_v7 : FVec F S1024x100x256 .f32 := broadcastInDim S1024x100x256 ![0, 1, 2] bcast_S1024x100x1_S1024x100x256_0_1_2 main_v5
  let main_v8 : FVec F S1024x100x256 .f32 := broadcastInDim S1024x100x256 ![0, 1, 2] bcast_S1x1x256_S1024x100x256_0_1_2 main_v6
  let main_v9 : FVec F S1024x100x256 .f32 := Host.divf main_v7 main_v8
  let main_v10 : FVec F S1024x100x256 .f32 := Host.sin main_v9
  let main_v11 : FVec F S1024x100x256 .f32 := Host.cos main_v9
  let main_v12 : FVec F S1024x100x512 .f32 := (fun a b => concatenate S1024x100x512 2 [⟨S1024x100x256, a⟩, ⟨S1024x100x256, b⟩] concatenates_S1024x100x256_S1024x100x256_S1024x100x512_d2) main_v10 main_v11
  let main_v13 : IVec S1024x1 32 := (extractStridedSlice S1024x1 ![0, 0] · slices_S1024x200_S1024x1_0_0) main_arg0
  let main_v14 : IVec S1024 32 := shapeCast S1024 main_v13 shapeCasts_S1024x1_S1024
  let main_v15 : FVec F S1024x512 .f32 := fn_take_2 (F := F) main_arg2 main_v14
  let main_v16 : FVec F S1024x1x512 .f32 := broadcastInDim S1024x1x512 ![0, 2] bcast_S1024x512_S1024x1x512_0_2 main_v15
  let main_v17 : FVec F S1024x99x512 .f32 := (extractStridedSlice S1024x99x512 ![0, 0, 0] · slices_S1024x100x512_S1024x99x512_0_0_0) main_v12
  let main_v18 : FVec F S1024x99x512 .f32 := addf main_v2 main_v17
  let main_v19 : FVec F S1024x100x512 .f32 := (fun a b => concatenate S1024x100x512 1 [⟨S1024x1x512, a⟩, ⟨S1024x99x512, b⟩] concatenates_S1024x1x512_S1024x99x512_S1024x100x512_d1) main_v16 main_v18
  let main_v20 : FVec F S1024x100x1x512 .f32 := broadcastInDim S1024x100x1x512 ![0, 1, 3] bcast_S1024x100x512_S1024x100x1x512_0_1_3 main_v19
  let main_v21 : FVec F S1024x100x1x512 .f32 := broadcastInDim S1024x100x1x512 ![0, 1, 3] bcast_S1024x100x512_S1024x100x1x512_0_1_3 main_v3
  fn_part1 (F := F) main_arg1 main_arg4 main_cst_0 main_v20 main_v21
-- ==== Pre_inputs_in_range.lean ====
abbrev S1024x200 : Shape := ⟨2, ![1024, 200]⟩
abbrev S32x512 : Shape := ⟨2, ![32, 512]⟩
abbrev S512x512 : Shape := ⟨2, ![512, 512]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S1024x200 .f32) (main_arg2 : FVec F S32x512 .f32) (main_arg3 : FVec F S512x512 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 32#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_cst : FVec F S_ .f32 := constant S_ .f32 0x00000000#32
  let main_v6 : FVec F S1024x200 .f32 := broadcastInDim S1024x200 ![] bcast_S_S1024x200 main_cst
  let main_v7 : IVec S1024x200 1 := cmpf .oge main_arg1 main_v6
  let main_cst_2 : FVec F S_ .f32 := constant S_ .f32 0x3F800000#32
  let main_v8 : FVec F S1024x200 .f32 := broadcastInDim S1024x200 ![] bcast_S_S1024x200 main_cst_2
  let main_v9 : IVec S1024x200 1 := cmpf .ole main_arg1 main_v8
  let main_v10 : IVec S1024x200 1 := andi main_v7 main_v9
  let main_c_3 : IVec S_ 1 := constantI S_ 1 1#1
  let main_v11 : IVec S_ 1 := (fun x v => Host.reduce IntOp.andi x v reducesTo_S1024x200_S_d0_1 h_S_) main_v10 main_c_3
  let main_v12 : IVec S_ 1 := andi main_v5 main_v11
  main_v12
-- ==== Pre_tokens_in_table.lean ====
abbrev S1024x200 : Shape := ⟨2, ![1024, 200]⟩
abbrev S32x512 : Shape := ⟨2, ![32, 512]⟩
abbrev S512x512 : Shape := ⟨2, ![512, 512]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S1024x200 .f32) (main_arg2 : FVec F S32x512 .f32) (main_arg3 : FVec F S512x512 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 32#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== AsWritten.lean ====
abbrev S1024x200 : Shape := ⟨2, ![1024, 200]⟩
abbrev S32x512 : Shape := ⟨2, ![32, 512]⟩
abbrev S512x512 : Shape := ⟨2, ![512, 512]⟩
abbrev S256 : Shape := ⟨1, ![256]⟩
abbrev S32 : Shape := ⟨1, ![32]⟩
abbrev S32x1 : Shape := ⟨2, ![32, 1]⟩
abbrev S1x256 : Shape := ⟨2, ![1, 256]⟩
abbrev S32x256 : Shape := ⟨2, ![32, 256]⟩
abbrev S96x512 : Shape := ⟨2, ![96, 512]⟩
abbrev S1024x200x512 : Shape := ⟨3, ![1024, 200, 512]⟩
abbrev S32x200 : Shape := ⟨2, ![32, 200]⟩
abbrev S32x200x512 : Shape := ⟨3, ![32, 200, 512]⟩
abbrev S32x199 : Shape := ⟨2, ![32, 199]⟩
abbrev S32x200x96 : Shape := ⟨3, ![32, 200, 96]⟩
abbrev S32x200x1 : Shape := ⟨3, ![32, 200, 1]⟩
abbrev S6400x96 : Shape := ⟨2, ![6400, 96]⟩
abbrev S6400x512 : Shape := ⟨2, ![6400, 512]⟩
abbrev S1x1x256 : Shape := ⟨3, ![1, 1, 256]⟩
abbrev S1x1x128 : Shape := ⟨3, ![1, 1, 128]⟩
abbrev S32x200x128 : Shape := ⟨3, ![32, 200, 128]⟩

abbrev nBuf : Space → Nat
  | .hbm => 19
  | .vmem => 8
  | .smem => 0
  | _ => 0

abbrev bufTy : (tb : Table) → Fin (tcTables nBuf tb) → BufTy
  | .hbm, ⟨0, _⟩ => ⟨S1024x200, .i32⟩
  | .hbm, ⟨1, _⟩ => ⟨S1024x200, .f32⟩
  | .hbm, ⟨2, _⟩ => ⟨S32x512, .f32⟩
  | .hbm, ⟨3, _⟩ => ⟨S512x512, .f32⟩
  | .hbm, ⟨4, _⟩ => ⟨S256, .f32⟩
  | .hbm, ⟨5, _⟩ => ⟨S256, .f32⟩
  | .hbm, ⟨6, _⟩ => ⟨S32, .f32⟩
  | .hbm, ⟨7, _⟩ => ⟨S32x1, .f32⟩
  | .hbm, ⟨8, _⟩ => ⟨S1x256, .f32⟩
  | .hbm, ⟨9, _⟩ => ⟨S32x256, .f32⟩
  | .hbm, ⟨10, _⟩ => ⟨S32x256, .f32⟩
  | .hbm, ⟨11, _⟩ => ⟨S32x256, .f32⟩
  | .hbm, ⟨12, _⟩ => ⟨S32x256, .f32⟩
  | .hbm, ⟨13, _⟩ => ⟨S32x256, .f32⟩
  | .hbm, ⟨14, _⟩ => ⟨S32x512, .f32⟩
  | .hbm, ⟨15, _⟩ => ⟨S32x512, .f32⟩
  | .hbm, ⟨16, _⟩ => ⟨S96x512, .f32⟩
  | .hbm, ⟨17, _⟩ => ⟨S1x256, .f32⟩
  | .hbm, ⟨18, _⟩ => ⟨S1024x200x512, .f32⟩
  | .local _ .vmem, ⟨0, _⟩ => ⟨S32x200, .i32⟩
  | .local _ .vmem, ⟨1, _⟩ => ⟨S32x200, .i32⟩
  | .local _ .vmem, ⟨2, _⟩ => ⟨S32x200, .f32⟩
  | .local _ .vmem, ⟨3, _⟩ => ⟨S32x200, .f32⟩
  | .local _ .vmem, ⟨4, _⟩ => ⟨S96x512, .f32⟩
  | .local _ .vmem, ⟨5, _⟩ => ⟨S1x256, .f32⟩
  | .local _ .vmem, ⟨6, _⟩ => ⟨S32x200x512, .f32⟩
  | .local _ .vmem, ⟨7, _⟩ => ⟨S32x200x512, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x200x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel.lean ====
abbrev S1024x200 : Shape := ⟨2, ![1024, 200]⟩
abbrev S32x512 : Shape := ⟨2, ![32, 512]⟩
abbrev S512x512 : Shape := ⟨2, ![512, 512]⟩
abbrev S256 : Shape := ⟨1, ![256]⟩
abbrev S32 : Shape := ⟨1, ![32]⟩
abbrev S32x1 : Shape := ⟨2, ![32, 1]⟩
abbrev S1x256 : Shape := ⟨2, ![1, 256]⟩
abbrev S32x256 : Shape := ⟨2, ![32, 256]⟩
abbrev S96x512 : Shape := ⟨2, ![96, 512]⟩
abbrev S128 : Shape := ⟨1, ![128]⟩
abbrev S_ : Shape := ⟨0, ![]⟩
abbrev S1024x200x512 : Shape := ⟨3, ![1024, 200, 512]⟩
abbrev S32x200 : Shape := ⟨2, ![32, 200]⟩
abbrev S32x200x512 : Shape := ⟨3, ![32, 200, 512]⟩
abbrev S32x199 : Shape := ⟨2, ![32, 199]⟩
abbrev S32x200x96 : Shape := ⟨3, ![32, 200, 96]⟩
abbrev S32x200x1 : Shape := ⟨3, ![32, 200, 1]⟩
abbrev S6400x96 : Shape := ⟨2, ![6400, 96]⟩
abbrev S6400x512 : Shape := ⟨2, ![6400, 512]⟩
abbrev S1x1x256 : Shape := ⟨3, ![1, 1, 256]⟩
abbrev S1x1x128 : Shape := ⟨3, ![1, 1, 128]⟩
abbrev S32x200x128 : Shape := ⟨3, ![32, 200, 128]⟩

abbrev nBuf : Space → Nat
  | .hbm => 24
  | .vmem => 8
  | .smem => 0
  | _ => 0

abbrev bufTy : (tb : Table) → Fin (tcTables nBuf tb) → BufTy
  | .hbm, ⟨0, _⟩ => ⟨S1024x200, .i32⟩
  | .hbm, ⟨1, _⟩ => ⟨S1024x200, .f32⟩
  | .hbm, ⟨2, _⟩ => ⟨S32x512, .f32⟩
  | .hbm, ⟨3, _⟩ => ⟨S512x512, .f32⟩
  | .hbm, ⟨4, _⟩ => ⟨S256, .f32⟩
  | .hbm, ⟨5, _⟩ => ⟨S32, .f32⟩
  | .hbm, ⟨6, _⟩ => ⟨S32x1, .f32⟩
  | .hbm, ⟨7, _⟩ => ⟨S1x256, .f32⟩
  | .hbm, ⟨8, _⟩ => ⟨S32x256, .f32⟩
  | .hbm, ⟨9, _⟩ => ⟨S32x256, .f32⟩
  | .hbm, ⟨10, _⟩ => ⟨S32x256, .f32⟩
  | .hbm, ⟨11, _⟩ => ⟨S32x256, .f32⟩
  | .hbm, ⟨12, _⟩ => ⟨S32x256, .f32⟩
  | .hbm, ⟨13, _⟩ => ⟨S32x512, .f32⟩
  | .hbm, ⟨14, _⟩ => ⟨S32x512, .f32⟩
  | .hbm, ⟨15, _⟩ => ⟨S96x512, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S256, .f32⟩
  | .hbm, ⟨22, _⟩ => ⟨S1x256, .f32⟩
  | .hbm, ⟨23, _⟩ => ⟨S1024x200x512, .f32⟩
  | .local _ .vmem, ⟨0, _⟩ => ⟨S32x200, .i32⟩
  | .local _ .vmem, ⟨1, _⟩ => ⟨S32x200, .i32⟩
  | .local _ .vmem, ⟨2, _⟩ => ⟨S32x200, .f32⟩
  | .local _ .vmem, ⟨3, _⟩ => ⟨S32x200, .f32⟩
  | .local _ .vmem, ⟨4, _⟩ => ⟨S96x512, .f32⟩
  | .local _ .vmem, ⟨5, _⟩ => ⟨S1x256, .f32⟩
  | .local _ .vmem, ⟨6, _⟩ => ⟨S32x200x512, .f32⟩
  | .local _ .vmem, ⟨7, _⟩ => ⟨S32x200x512, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x200x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "m1" => some (((4503612398652171 / 17592186044416) * Real.pi : ℝ) : EReal)
  | "m2" => some (((-12771281675 / 17592186044416) * Real.pi : ℝ) : EReal)
  | "pi" => some ((Real.pi : ℝ) : EReal)
  | _ => none
-- ==== ReferenceIdeal.lean ====
abbrev S1024x200 : Shape := ⟨2, ![1024, 200]⟩
abbrev S32x512 : Shape := ⟨2, ![32, 512]⟩
abbrev S512x512 : Shape := ⟨2, ![512, 512]⟩
abbrev S256 : Shape := ⟨1, ![256]⟩
abbrev S1024x99 : Shape := ⟨2, ![1024, 99]⟩
abbrev S1024x100 : Shape := ⟨2, ![1024, 100]⟩
abbrev S_ : Shape := ⟨0, ![]⟩
abbrev S1024x99x1 : Shape := ⟨3, ![1024, 99, 1]⟩
abbrev S1 : Shape := ⟨1, ![1]⟩
abbrev S1x1x1 : Shape := ⟨3, ![1, 1, 1]⟩
abbrev S1024x99x512 : Shape := ⟨3, ![1024, 99, 512]⟩
abbrev S1024x100x1 : Shape := ⟨3, ![1024, 100, 1]⟩
abbrev S1024x100x512 : Shape := ⟨3, ![1024, 100, 512]⟩
abbrev S1x1x256 : Shape := ⟨3, ![1, 1, 256]⟩
abbrev S1024x100x256 : Shape := ⟨3, ![1024, 100, 256]⟩
abbrev S1024x1 : Shape := ⟨2, ![1024, 1]⟩
abbrev S1024 : Shape := ⟨1, ![1024]⟩
abbrev S1x1 : Shape := ⟨2, ![1, 1]⟩
abbrev S1024x512 : Shape := ⟨2, ![1024, 512]⟩
abbrev S1024x1x512 : Shape := ⟨3, ![1024, 1, 512]⟩
abbrev S1024x100x1x512 : Shape := ⟨4, ![1024, 100, 1, 512]⟩
abbrev S1024x100x2x512 : Shape := ⟨4, ![1024, 100, 2, 512]⟩
abbrev S1024x200x512 : Shape := ⟨3, ![1024, 200, 512]⟩
abbrev S1024x200x1 : Shape := ⟨3, ![1024, 200, 1]⟩
abbrev S1024x200x256 : Shape := ⟨3, ![1024, 200, 256]⟩

abbrev nBuf : Space → Nat
  | .hbm => 105
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024x200, .f32⟩
  | .hbm, ⟨2, _⟩ => ⟨S32x512, .f32⟩
  | .hbm, ⟨3, _⟩ => ⟨S512x512, .f32⟩
  | .hbm, ⟨4, _⟩ => ⟨S256, .f32⟩
  | .hbm, ⟨5, _⟩ => ⟨S256, .f32⟩
  | .hbm, ⟨6, _⟩ => ⟨S1024x99, .i32⟩
  | .hbm, ⟨7, _⟩ => ⟨S1024x100, .i32⟩
  | .hbm, ⟨8, _⟩ => ⟨S_, .i32⟩
  | .hbm, ⟨9, _⟩ => ⟨S1024x99, .i32⟩
  | .hbm, ⟨10, _⟩ => ⟨S1024x99, .i1⟩
  | .hbm, ⟨11, _⟩ => ⟨S_, .i32⟩
  | .hbm, ⟨12, _⟩ => ⟨S1024x99, .i32⟩
  | .hbm, ⟨13, _⟩ => ⟨S1024x99, .i32⟩
  | .hbm, ⟨14, _⟩ => ⟨S1024x99, .i32⟩
  | .hbm, ⟨15, _⟩ => ⟨S1024x99x1, .i32⟩
  | .hbm, ⟨16, _⟩ => ⟨S1, .i32⟩
  | .hbm, ⟨17, _⟩ => ⟨S_, .i32⟩
  | .hbm, ⟨18, _⟩ => ⟨S1024x99x1, .i32⟩
  | .hbm, ⟨19, _⟩ => ⟨S1024x99x1, .i1⟩
  | .hbm, ⟨20, _⟩ => ⟨S1x1x1, .i32⟩
  | .hbm, ⟨21, _⟩ => ⟨S1024x99x1, .i32⟩
  | .hbm, ⟨22, _⟩ => ⟨S1024x99x1, .i1⟩
  | .hbm, ⟨23, _⟩ => ⟨S1024x99x1, .i1⟩
  | .hbm, ⟨24, _⟩ => ⟨S_, .i1⟩
  | .hbm, ⟨25, _⟩ => ⟨S1024x99, .i1⟩
  | .hbm, ⟨26, _⟩ => ⟨S1024x99x512, .f32⟩
  | .hbm, ⟨27, _⟩ => ⟨S1024x99x512, .i1⟩
  | .hbm, ⟨28, _⟩ => ⟨S_, .f32⟩
  | .hbm, ⟨29, _⟩ => ⟨S1024x99x512, .f32⟩
  | .hbm, ⟨30, _⟩ => ⟨S1024x99x512, .f32⟩
  | .hbm, ⟨31, _⟩ => ⟨S_, .i32⟩
  | .hbm, ⟨32, _⟩ => ⟨S1024x100, .i32⟩
  | .hbm, ⟨33, _⟩ => ⟨S1024x100, .i1⟩
  | .hbm, ⟨34, _⟩ => ⟨S_, .i32⟩
  | .hbm, ⟨35, _⟩ => ⟨S1024x100, .i32⟩
  | .hbm, ⟨36, _⟩ => ⟨S1024x100, .i32⟩
  | .hbm, ⟨37, _⟩ => ⟨S1024x100, .i32⟩
  | .hbm, ⟨38, _⟩ => ⟨S1024x100x1, .i32⟩
  | .hbm, ⟨39, _⟩ => ⟨S1, .i32⟩
  | .hbm, ⟨40, _⟩ => ⟨S_, .i32⟩
  | .hbm, ⟨41, _⟩ => ⟨S1024x100x1, .i32⟩
  | .hbm, ⟨42, _⟩ => ⟨S1024x100x1, .i1⟩
  | .hbm, ⟨43, _⟩ => ⟨S1x1x1, .i32⟩
  | .hbm, ⟨44, _⟩ => ⟨S1024x100x1, .i32⟩
  | .hbm, ⟨45, _⟩ => ⟨S1024x100x1, .i1⟩
  | .hbm, ⟨46, _⟩ => ⟨S1024x100x1, .i1⟩
  | .hbm, ⟨47, _⟩ => ⟨S_, .i1⟩
  | .hbm, ⟨48, _⟩ => ⟨S1024x100, .i1⟩
  | .hbm, ⟨49, _⟩ => ⟨S1024x100x512, .f32⟩
  | .hbm, ⟨50, _⟩ => ⟨S1024x100x512, .i1⟩
  | .hbm, ⟨51, _⟩ => ⟨S_, .f32⟩
  | .hbm, ⟨52, _⟩ => ⟨S1024x100x512, .f32⟩
  | .hbm, ⟨53, _⟩ => ⟨S1024x100x512, .f32⟩
  | .hbm, ⟨54, _⟩ => ⟨S1024x100, .f32⟩
  | .hbm, ⟨55, _⟩ => ⟨S1024x100x1, .f32⟩
  | .hbm, ⟨56, _⟩ => ⟨S1x1x256, .f32⟩
  | .hbm, ⟨57, _⟩ => ⟨S1024x100x256, .f32⟩
  | .hbm, ⟨58, _⟩ => ⟨S1024x100x256, .f32⟩
  | .hbm, ⟨59, _⟩ => ⟨S1024x100x256, .f32⟩
  | .hbm, ⟨60, _⟩ => ⟨S1024x100x256, .f32⟩
  | .hbm, ⟨61, _⟩ => ⟨S1024x100x256, .f32⟩
  | .hbm, ⟨62, _⟩ => ⟨S1024x100x512, .f32⟩
  | .hbm, ⟨63, _⟩ => ⟨S1024x1, .i32⟩
  | .hbm, ⟨64, _⟩ => ⟨S1024, .i32⟩
  | .hbm, ⟨65, _⟩ => ⟨S_, .i32⟩
  | .hbm, ⟨66, _⟩ => ⟨S1024, .i32⟩
  | .hbm, ⟨67, _⟩ => ⟨S1024, .i1⟩
  | .hbm, ⟨68, _⟩ => ⟨S_, .i32⟩
  | .hbm, ⟨69, _⟩ => ⟨S1024, .i32⟩
  | .hbm, ⟨70, _⟩ => ⟨S1024, .i32⟩
  | .hbm, ⟨71, _⟩ => ⟨S1024, .i32⟩
  | .hbm, ⟨72, _⟩ => ⟨S1024x1, .i32⟩
  | .hbm, ⟨73, _⟩ => ⟨S1, .i32⟩
  | .hbm, ⟨74, _⟩ => ⟨S_, .i32⟩
  | .hbm, ⟨75, _⟩ => ⟨S1024x1, .i32⟩
  | .hbm, ⟨76, _⟩ => ⟨S1024x1, .i1⟩
  | .hbm, ⟨77, _⟩ => ⟨S1x1, .i32⟩
  | .hbm, ⟨78, _⟩ => ⟨S1024x1, .i32⟩
  | .hbm, ⟨79, _⟩ => ⟨S1024x1, .i1⟩
  | .hbm, ⟨80, _⟩ => ⟨S1024x1, .i1⟩
  | .hbm, ⟨81, _⟩ => ⟨S_, .i1⟩
  | .hbm, ⟨82, _⟩ => ⟨S1024, .i1⟩
  | .hbm, ⟨83, _⟩ => ⟨S1024x512, .f32⟩
  | .hbm, ⟨84, _⟩ => ⟨S1024x512, .i1⟩
  | .hbm, ⟨85, _⟩ => ⟨S_, .f32⟩
  | .hbm, ⟨86, _⟩ => ⟨S1024x512, .f32⟩
  | .hbm, ⟨87, _⟩ => ⟨S1024x512, .f32⟩
  | .hbm, ⟨88, _⟩ => ⟨S1024x1x512, .f32⟩
  | .hbm, ⟨89, _⟩ => ⟨S1024x99x512, .f32⟩
  | .hbm, ⟨90, _⟩ => ⟨S1024x99x512, .f32⟩
  | .hbm, ⟨91, _⟩ => ⟨S1024x100x512, .f32⟩
  | .hbm, ⟨92, _⟩ => ⟨S1024x100x1x512, .f32⟩
  | .hbm, ⟨93, _⟩ => ⟨S1024x100x1x512, .f32⟩
  | .hbm, ⟨94, _⟩ => ⟨S1024x100x2x512, .f32⟩
  | .hbm, ⟨95, _⟩ => ⟨S1024x200x512, .f32⟩
  | .hbm, ⟨96, _⟩ => ⟨S1024x200x1, .f32⟩
  | .hbm, ⟨97, _⟩ => ⟨S1x1x256, .f32⟩
  | .hbm, ⟨98, _⟩ => ⟨S1024x200x256, .f32⟩
  | .hbm, ⟨99, _⟩ => ⟨S1024x200x256, .f32⟩
  | .hbm, ⟨100, _⟩ => ⟨S1024x200x256, .f32⟩
  | .hbm, ⟨101, _⟩ => ⟨S1024x200x256, .f32⟩
  | .hbm, ⟨102, _⟩ => ⟨S1024x200x256, .f32⟩
  | .hbm, ⟨103, _⟩ => ⟨S1024x200x512, .f32⟩
  | .hbm, ⟨104, _⟩ => ⟨S1024x200x512, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩

abbrev nD : Nat := 1
abbrev τ : Topo := Topo.v7x

variable {F : FTy → Type} [FloatOps F]
-- ==== Arithmetic.lean ====
abbrev S1024x200 : Shape := ⟨2, ![1024, 200]⟩
abbrev S32x512 : Shape := ⟨2, ![32, 512]⟩
abbrev S512x512 : Shape := ⟨2, ![512, 512]⟩
abbrev S256 : Shape := ⟨1, ![256]⟩
abbrev S32 : Shape := ⟨1, ![32]⟩
abbrev S32x1 : Shape := ⟨2, ![32, 1]⟩
abbrev S1x256 : Shape := ⟨2, ![1, 256]⟩
abbrev S32x256 : Shape := ⟨2, ![32, 256]⟩
abbrev S96x512 : Shape := ⟨2, ![96, 512]⟩
abbrev S1024x200x512 : Shape := ⟨3, ![1024, 200, 512]⟩
abbrev S32x200 : Shape := ⟨2, ![32, 200]⟩
abbrev S32x200x512 : Shape := ⟨3, ![32, 200, 512]⟩
abbrev S32x199 : Shape := ⟨2, ![32, 199]⟩
abbrev S32x200x96 : Shape := ⟨3, ![32, 200, 96]⟩
abbrev S32x200x1 : Shape := ⟨3, ![32, 200, 1]⟩
abbrev S6400x96 : Shape := ⟨2, ![6400, 96]⟩
abbrev S6400x512 : Shape := ⟨2, ![6400, 512]⟩
abbrev S1x1x256 : Shape := ⟨3, ![1, 1, 256]⟩
abbrev S1x1x128 : Shape := ⟨3, ![1, 1, 128]⟩
abbrev S32x200x128 : Shape := ⟨3, ![32, 200, 128]⟩

abbrev nBuf : Space → Nat
  | .hbm => 19
  | .vmem => 8
  | .smem => 0
  | _ => 0

abbrev bufTy : (tb : Table) → Fin (tcTables nBuf tb) → BufTy
  | .hbm, ⟨0, _⟩ => ⟨S1024x200, .i32⟩
  | .hbm, ⟨1, _⟩ => ⟨S1024x200, .f32⟩
  | .hbm, ⟨2, _⟩ => ⟨S32x512, .f32⟩
  | .hbm, ⟨3, _⟩ => ⟨S512x512, .f32⟩
  | .hbm, ⟨4, _⟩ => ⟨S256, .f32⟩
  | .hbm, ⟨5, _⟩ => ⟨S256, .f32⟩
  | .hbm, ⟨6, _⟩ => ⟨S32, .f32⟩
  | .hbm, ⟨7, _⟩ => ⟨S32x1, .f32⟩
  | .hbm, ⟨8, _⟩ => ⟨S1x256, .f32⟩
  | .hbm, ⟨9, _⟩ => ⟨S32x256, .f32⟩
  | .hbm, ⟨10, _⟩ => ⟨S32x256, .f32⟩
  | .hbm, ⟨11, _⟩ => ⟨S32x256, .f32⟩
  | .hbm, ⟨12, _⟩ => ⟨S32x256, .f32⟩
  | .hbm, ⟨13, _⟩ => ⟨S32x256, .f32⟩
  | .hbm, ⟨14, _⟩ => ⟨S32x512, .f32⟩
  | .hbm, ⟨15, _⟩ => ⟨S32x512, .f32⟩
  | .hbm, ⟨16, _⟩ => ⟨S96x512, .f32⟩
  | .hbm, ⟨17, _⟩ => ⟨S1x256, .f32⟩
  | .hbm, ⟨18, _⟩ => ⟨S1024x200x512, .f32⟩
  | .local _ .vmem, ⟨0, _⟩ => ⟨S32x200, .i32⟩
  | .local _ .vmem, ⟨1, _⟩ => ⟨S32x200, .i32⟩
  | .local _ .vmem, ⟨2, _⟩ => ⟨S32x200, .f32⟩
  | .local _ .vmem, ⟨3, _⟩ => ⟨S32x200, .f32⟩
  | .local _ .vmem, ⟨4, _⟩ => ⟨S96x512, .f32⟩
  | .local _ .vmem, ⟨5, _⟩ => ⟨S1x256, .f32⟩
  | .local _ .vmem, ⟨6, _⟩ => ⟨S32x200x512, .f32⟩
  | .local _ .vmem, ⟨7, _⟩ => ⟨S32x200x512, .f32⟩
  | _, _ => ⟨S1024x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x200x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Proof.SinCos.lean ====
module

public import Idealize.ShloMosaic.Lib.Pointwise

/-! The range reduction of the kernel's sine and cosine, over the extended reals. -/

@[expose] public section

noncomputable section

namespace Cert.Proof

open Idealize.ShloMosaic

/-- Rounding to the nearest integer, ties to even, on the extended reals. -/
abbrev rnd (x : EReal) : EReal := Ideal.liftRound Ideal.roundHalfEven x

/-- The sign that the parity of `m` gives: -1 where `m` is odd and 1 elsewhere. -/
def flip (m : EReal) : EReal :=
  if m - Ideal.ofBits .f32 1073741824#32 * Ideal.liftRound Int.floor (m * Ideal.ofBits .f32 1056964608#32) = 1 then
    Ideal.ofBits .f32 3212836864#32 else 1

/-- The word `0x40000000` is the real two. -/
theorem word_two : Ideal.ofBits .f32 1073741824#32 = ((2 : ℝ) : EReal) := by
  simp [Ideal.ofBits, Ideal.ieee, -EReal.coe_mul]; norm_num

/-- The word `0x3F000000` is the real one half. -/
theorem word_half : Ideal.ofBits .f32 1056964608#32 = ((1 / 2 : ℝ) : EReal) := by
  simp [Ideal.ofBits, Ideal.ieee, -EReal.coe_mul]; norm_num

/-- The word `0xBF800000` is the real minus one. -/
theorem word_minus_one : Ideal.ofBits .f32 3212836864#32 = ((-1 : ℝ) : EReal) := by
  simp [Ideal.ofBits, Ideal.ieee, -EReal.coe_mul]; norm_num

/-- The word of `1 / pi` is a positive real. -/
theorem word_inv_pi : ∃ c : ℝ, 0 < c ∧ Ideal.ofBits .f32 1050868099#32 = (c : EReal) := by
  refine ⟨10680707 / 33554432, by norm_num, ?_⟩
  simp [Ideal.ofBits, Ideal.ieee, -EReal.coe_mul]; norm_num

/-- The word of `1 / (256 pi)` is a positive real. -/
theorem word_inv_mod : ∃ c : ℝ, 0 < c ∧ Ideal.ofBits .f32 983759235#32 = (c : EReal) := by
  refine ⟨10680707 / 8589934592, by norm_num, ?_⟩
  simp [Ideal.ofBits, Ideal.ieee, -EReal.coe_mul]; norm_num

/-- At minus infinity no sign is turned. -/
theorem flip_bot : flip ⊥ = 1 := by
  have h : (⊥ : EReal) * Ideal.ofBits .f32 1056964608#32 = ⊥ := by
    rw [word_half]; exact EReal.bot_mul_coe_of_pos (by norm_num)
  unfold flip
  rw [h, if_neg]
  rw [EReal.bot_sub]
  exact fun h => absurd h (by decide)

/-- At plus infinity no sign is turned. -/
theorem flip_top : flip ⊤ = 1 := by
  have h : (⊤ : EReal) * Ideal.ofBits .f32 1056964608#32 = ⊤ := by
    rw [word_half]; exact EReal.top_mul_coe_of_pos (by norm_num)
  have h' : Ideal.ofBits .f32 1073741824#32 * (⊤ : EReal) = ⊤ := by
    rw [word_two]; exact EReal.coe_mul_top_of_pos (by norm_num)
  unfold flip
  rw [h, show Ideal.liftRound Int.floor (⊤ : EReal) = ⊤ from rfl, h', if_neg]
  rw [EReal.sub_top]
  exact fun h => absurd h (by decide)

/-- The sign of an integer is the power of minus one to it. -/
theorem flip_int (n : ℤ) : flip (((n : ℝ)) : EReal) = (((-1 : ℝ) ^ n : ℝ) : EReal) := by
  have hfl : Int.floor ((n : ℝ) * (1 / 2)) = n / 2 := by
    rw [show (n : ℝ) * (1 / 2) = (n : ℝ) / ((2 : ℕ) : ℝ) by push_cast; ring]
    rw [Int.floor_div_natCast, Int.floor_intCast]; rfl
  have harg : ((n : ℝ) : EReal) - Ideal.ofBits .f32 1073741824#32 *
      Ideal.liftRound Int.floor (((n : ℝ) : EReal) * Ideal.ofBits .f32 1056964608#32) = (((n - 2 * (n / 2) : ℤ) : ℝ) : EReal) := by
    rw [word_half, word_two, ← EReal.coe_mul]
    show ((n : ℝ) : EReal) - ((2 : ℝ) : EReal) * (((Int.floor ((n : ℝ) * (1 / 2)) : ℤ) : ℝ) : EReal) = _
    rw [hfl, ← EReal.coe_mul, ← EReal.coe_sub]
    push_cast; rfl
  unfold flip
  rw [harg]
  rcases Int.even_or_odd n with he | ho
  · have : n - 2 * (n / 2) = 0 := by have := Int.even_iff.mp he; omega
    rw [if_neg, he.neg_one_zpow]; · rfl
    rw [this]; simp
  · have : n - 2 * (n / 2) = 1 := by have := Int.odd_iff.mp ho; omega
    rw [if_pos, ho.neg_one_zpow, word_minus_one]
    rw [this]; simp

/-- The sine after the reduction modulo pi, with the sign of the parity, is the sine. -/
theorem sin_reduced (y : EReal) :
    Ideal.sin (y - rnd (y * Ideal.ofBits .f32 1050868099#32) * ((Real.pi : ℝ) : EReal))
      * flip (rnd (y * Ideal.ofBits .f32 1050868099#32)) = Ideal.sin y := by
  obtain ⟨c, hc, hw⟩ := word_inv_pi
  rw [hw]
  induction y with
  | bot =>
    rw [EReal.bot_mul_coe_of_pos hc, show rnd ⊥ = ⊥ from rfl, flip_bot, mul_one, EReal.bot_sub]
  | top =>
    rw [EReal.top_mul_coe_of_pos hc, show rnd ⊤ = ⊤ from rfl, flip_top, mul_one,
      EReal.top_mul_coe_of_pos Real.pi_pos, EReal.sub_top]; rfl
  | coe y =>
    rw [← EReal.coe_mul, show rnd ((y * c : ℝ) : EReal) = (((Ideal.roundHalfEven (y * c) : ℤ) : ℝ) : EReal) from rfl]
    generalize Ideal.roundHalfEven (y * c) = n
    rw [flip_int, ← EReal.coe_mul, ← EReal.coe_sub]
    show ((Real.sin (y - n * Real.pi) : ℝ) : EReal) * _ = ((Real.sin y : ℝ) : EReal)
    rw [← EReal.coe_mul, Real.sin_sub_int_mul_pi, mul_comm, ← mul_assoc, ← mul_zpow]
    norm_num

/-- The cosine after the reduction modulo pi, with the sign of the parity, is the cosine. -/
theorem cos_reduced (y : EReal) :
    Ideal.cos (y - rnd (y * Ideal.ofBits .f32 1050868099#32) * ((Real.pi : ℝ) : EReal))
      * flip (rnd (y * Ideal.ofBits .f32 1050868099#32)) = Ideal.cos y := by
  obtain ⟨c, hc, hw⟩ := word_inv_pi
  rw [hw]
  induction y with
  | bot =>
    rw [EReal.bot_mul_coe_of_pos hc, show rnd ⊥ = ⊥ from rfl, flip_bot, mul_one, EReal.bot_sub]
  | top =>
    rw [EReal.top_mul_coe_of_pos hc, show rnd ⊤ = ⊤ from rfl, flip_top, mul_one,
      EReal.top_mul_coe_of_pos Real.pi_pos, EReal.sub_top]; rfl
  | coe y =>
    rw [← EReal.coe_mul, show rnd ((y * c : ℝ) : EReal) = (((Ideal.roundHalfEven (y * c) : ℤ) : ℝ) : EReal) from rfl]
    generalize Ideal.roundHalfEven (y * c) = n
    rw [flip_int, ← EReal.coe_mul, ← EReal.coe_sub]
    show ((Real.cos (y - n * Real.pi) : ℝ) : EReal) * _ = ((Real.cos y : ℝ) : EReal)
    rw [← EReal.coe_mul, Real.cos_sub_int_mul_pi, mul_comm, ← mul_assoc, ← mul_zpow]
    norm_num

/-- `y` less a whole number of times `256 pi`, subtracted in the two parts that `256 pi` is cut into. -/
def shifted (y : EReal) : EReal :=
  y - rnd (y * Ideal.ofBits .f32 983759235#32) * (((4503612398652171 / 17592186044416) * Real.pi : ℝ) : EReal)
    - rnd (y * Ideal.ofBits .f32 983759235#32) * (((-12771281675 / 17592186044416) * Real.pi : ℝ) : EReal)

/-- The shift by a multiple of `256 pi`: minus infinity at the infinities, and on a real a whole number of periods. -/
theorem shifted_cases (y : EReal) :
    ((y = ⊥ ∨ y = ⊤) ∧ shifted y = ⊥) ∨ ∃ (x : ℝ) (q : ℤ), y = (x : EReal) ∧ shifted y = ((x - (q * 128 : ℤ) * (2 * Real.pi) : ℝ) : EReal) := by
  obtain ⟨c, hc, hw⟩ := word_inv_mod
  have h1 : 0 < (4503612398652171 / 17592186044416) * Real.pi := by have := Real.pi_pos; positivity
  unfold shifted
  rw [hw]
  induction y with
  | bot =>
    refine Or.inl ⟨Or.inl rfl, ?_⟩
    rw [EReal.bot_sub, EReal.bot_sub]
  | top =>
    refine Or.inl ⟨Or.inr rfl, ?_⟩
    rw [EReal.top_mul_coe_of_pos hc, show rnd ⊤ = ⊤ from rfl, EReal.top_mul_coe_of_pos h1, EReal.sub_top, EReal.bot_sub]
  | coe x =>
    refine Or.inr ⟨x, Ideal.roundHalfEven (x * c), rfl, ?_⟩
    rw [← EReal.coe_mul, show rnd ((x * c : ℝ) : EReal) = (((Ideal.roundHalfEven (x * c) : ℤ) : ℝ) : EReal) from rfl]
    rw [← EReal.coe_mul, ← EReal.coe_mul, ← EReal.coe_sub, ← EReal.coe_sub]
    congr 1
    push_cast
    ring

/-- The shift by a multiple of `256 pi` leaves the sine. -/
theorem sin_shifted (y : EReal) : Ideal.sin (shifted y) = Ideal.sin y := by
  rcases shifted_cases y with ⟨h | h, hs⟩ | ⟨x, q, rfl, hs⟩
  · rw [hs, h]
  · rw [hs, h]; rfl
  · rw [hs]
    show ((Real.sin _ : ℝ) : EReal) = ((Real.sin x : ℝ) : EReal)
    rw [Real.sin_sub_int_mul_two_pi]

/-- The shift by a multiple of `256 pi` leaves the cosine. -/
theorem cos_shifted (y : EReal) : Ideal.cos (shifted y) = Ideal.cos y := by
  rcases shifted_cases y with ⟨h | h, hs⟩ | ⟨x, q, rfl, hs⟩
  · rw [hs, h]
  · rw [hs, h]; rfl
  · rw [hs]
    show ((Real.cos _ : ℝ) : EReal) = ((Real.cos x : ℝ) : EReal)
    rw [Real.cos_sub_int_mul_two_pi]

/-- A word whose exponent is neither the least nor the greatest does not denote zero. -/
theorem word_ne_zero (w : BitVec 32) (h0 : (w.extractLsb' 23 8).toNat ≠ 0) (h1 : (w.extractLsb' 23 8).toNat ≠ 255) :
    Ideal.ofBits .f32 w ≠ 0 := by
  simp only [Ideal.ofBits, Ideal.ieee]
  rw [if_neg (by norm_num; exact h1), if_neg h0]
  intro h
  have h' := EReal.coe_eq_zero.mp h
  rcases mul_eq_zero.mp h' with h' | h'
  · rcases mul_eq_zero.mp h' with h' | h'
    · split at h' <;> norm_num at h'
    · have : (2 ^ 23 + (w.extractLsb' 0 23).toNat : Nat) = 0 := Nat.cast_eq_zero.mp h'
      omega
  · exact (zpow_ne_zero _ (by norm_num)) h'

/-- The word of `1 / pi`, as a fraction. -/
theorem word_inv_pi_real : Ideal.ofBits .f32 1050868099#32 = ((10680707 / 33554432 : ℝ) : EReal) := by
  simp [Ideal.ofBits, Ideal.ieee, -EReal.coe_mul]; norm_num

/-- The word of pi, as a fraction. -/
theorem word_pi : Ideal.ofBits .f32 1078530011#32 = ((13176795 / 4194304 : ℝ) : EReal) := by
  simp [Ideal.ofBits, Ideal.ieee, -EReal.coe_mul]; norm_num

/-- The word of `1 / (256 pi)`, as a fraction. -/
theorem word_inv_mod_real : Ideal.ofBits .f32 983759235#32 = ((10680707 / 8589934592 : ℝ) : EReal) := by
  simp [Ideal.ofBits, Ideal.ieee, -EReal.coe_mul]; norm_num

/-- The word of the first part of `256 pi`, as a fraction. -/
theorem word_mod1 : Ideal.ofBits .f32 1145638912#32 = ((3217 / 4 : ℝ) : EReal) := by
  simp [Ideal.ofBits, Ideal.ieee, -EReal.coe_mul]; norm_num

/-- The word of the second part of `256 pi`, as a fraction. -/
theorem word_mod2 : Ideal.ofBits .f32 3138746234#32 = ((-(4897725 / 2147483648) : ℝ) : EReal) := by
  simp [Ideal.ofBits, Ideal.ieee, -EReal.coe_mul]; norm_num

/-- The word of the sine polynomial's first coefficient, as a fraction. -/
theorem word_s1 : Ideal.ofBits .f32 1006682958#32 = ((4219303 / 536870912 : ℝ) : EReal) := by
  simp [Ideal.ofBits, Ideal.ieee, -EReal.coe_mul]; norm_num

/-- The word of the sine polynomial's second coefficient, as a fraction. -/
theorem word_s0 : Ideal.ofBits .f32 3190457521#32 = ((-(11175089 / 67108864) : ℝ) : EReal) := by
  simp [Ideal.ofBits, Ideal.ieee, -EReal.coe_mul]; norm_num

/-- The word of the cosine polynomial's first coefficient, as a fraction. -/
theorem word_c2 : Ideal.ofBits .f32 3131728748#32 = ((-(2791643 / 2147483648) : ℝ) : EReal) := by
  simp [Ideal.ofBits, Ideal.ieee, -EReal.coe_mul]; norm_num

/-- The word of the cosine polynomial's second coefficient, as a fraction. -/
theorem word_c1 : Ideal.ofBits .f32 1026184519#32 = ((11162951 / 268435456 : ℝ) : EReal) := by
  simp [Ideal.ofBits, Ideal.ieee, -EReal.coe_mul]; norm_num

/-- The word of the cosine polynomial's third coefficient, as a fraction. -/
theorem word_c0 : Ideal.ofBits .f32 3204447883#32 = ((-(16776843 / 33554432) : ℝ) : EReal) := by
  simp [Ideal.ofBits, Ideal.ieee, -EReal.coe_mul]; norm_num

/-- The word of the tolerance, as a fraction. -/
theorem word_tolerance : Ideal.ofBits .f32 974997842#32 = ((5153961 / 8589934592 : ℝ) : EReal) := by
  simp [Ideal.ofBits, Ideal.ieee, -EReal.coe_mul]; norm_num

/-- The word of zero. -/
theorem word_zero : Ideal.ofBits .f32 0#32 = ((0 : ℝ) : EReal) := by
  simp [Ideal.ofBits, Ideal.ieee, -EReal.coe_mul]

/-- The word of one. -/
theorem word_one : Ideal.ofBits .f32 1065353216#32 = ((1 : ℝ) : EReal) := by
  simp [Ideal.ofBits, Ideal.ieee, -EReal.coe_mul]; norm_num

/-- The number over a power of two that a positive word of moderate exponent denotes. -/
theorem word_fraction (w : BitVec 32) (hs : (w.extractLsb' 31 1 == 1#1) = false) (h0 : (w.extractLsb' 23 8).toNat ≠ 0)
    (h1 : (w.extractLsb' 23 8).toNat ≤ 150) : Ideal.ofBits .f32 w
      = (((2 ^ 23 + (w.extractLsb' 0 23).toNat : Nat) / ((2 ^ (150 - (w.extractLsb' 23 8).toNat) : Nat) : ℝ) : ℝ) : EReal) := by
  have h2 : (w.extractLsb' 23 8).toNat ≠ 255 := fun h => by rw [h] at h1; exact absurd h1 (by decide)
  simp only [Ideal.ofBits, Ideal.ieee]
  rw [if_neg (by norm_num; exact h2), if_neg h0]
  generalize (w.extractLsb' 23 8).toNat = e at h0 h1 ⊢
  rw [if_neg (by simpa using hs), one_mul, div_eq_mul_inv]
  congr 2
  rw [show ((e : ℤ) - (2 ^ (8 - 1) - 1) - ((23 : ℕ) : ℤ)) = -((150 - e : ℕ) : ℤ) by push_cast [Nat.cast_sub h1]; ring, zpow_neg, zpow_natCast]
  push_cast
  rfl

end Cert.Proof

end
-- ==== Proof.Lookup.lean ====
module

public import Idealize.ShloMosaic.Lib.Pointwise

/-! The one-hot rows of the tokens, and the sum over a table's rows that they pick from. -/

@[expose] public section

noncomputable section

namespace Cert.Proof

open Idealize.ShloMosaic

/-- Row `k` is picked at place `l` by the token `t` and the token before it `p`: row `t`, or row `t + 32` at an odd
    place, and row `p + 64` as well at an even place from 2 on. -/
def Picked (l t p k : ℕ) : Prop := k = t + 32 * (l % 2) ∨ (l % 2 = 0 ∧ 2 ≤ l ∧ k = p + 64)

instance (l t p k : ℕ) : Decidable (Picked l t p k) := by unfold Picked; infer_instance

/-- The remainder of `l` by 2 as the program finds it, in words. -/
def oddWord (l : ℕ) : BitVec 32 :=
  Scalar.select
    (IntOp.andi
      (IntOp.xori
        (IntOp.cmpi CmpIPredicate.slt
          (IntOp.remsi ArithUnit.vector (BitVec.ofNat 32 l) (Scalar.select (Scalar.cmpi CmpIPredicate.eq 2#32 0#32) 1#32 2#32)) 0#32)
        (Scalar.cmpi CmpIPredicate.slt (Scalar.select (Scalar.cmpi CmpIPredicate.eq 2#32 0#32) 1#32 2#32) 0#32))
      (IntOp.cmpi CmpIPredicate.ne
        (IntOp.remsi ArithUnit.vector (BitVec.ofNat 32 l) (Scalar.select (Scalar.cmpi CmpIPredicate.eq 2#32 0#32) 1#32 2#32)) 0#32))
    (IntOp.addi
      (IntOp.remsi ArithUnit.vector (BitVec.ofNat 32 l) (Scalar.select (Scalar.cmpi CmpIPredicate.eq 2#32 0#32) 1#32 2#32))
      (Scalar.select (Scalar.cmpi CmpIPredicate.eq 2#32 0#32) 1#32 2#32))
    (IntOp.remsi ArithUnit.vector (BitVec.ofNat 32 l) (Scalar.select (Scalar.cmpi CmpIPredicate.eq 2#32 0#32) 1#32 2#32))

/-- The remainder of a place by 2, in words, is its remainder. -/
theorem oddWord_eq (l : Fin 200) : oddWord l = BitVec.ofNat 32 (l % 2) :=
  (by decide +kernel : ∀ l : Fin 200, oddWord l = BitVec.ofNat 32 (l % 2)) l

/-- The place's test for the second row, in words, with the second row's number where it passes and the word -1 where it does not. -/
def secondWord (l : ℕ) (p : BitVec 32) : BitVec 32 :=
  Scalar.select (IntOp.andi (IntOp.cmpi CmpIPredicate.eq (oddWord l) 0#32) (IntOp.cmpi CmpIPredicate.sge (BitVec.ofNat 32 l) 2#32))
    (IntOp.addi p 64#32) 4294967295#32

/-- The place's test, decided. -/
theorem secondTest_eq (l : Fin 200) :
    IntOp.andi (IntOp.cmpi CmpIPredicate.eq (oddWord l) 0#32) (IntOp.cmpi CmpIPredicate.sge (BitVec.ofNat 32 l) 2#32)
      = BitVec.ofBool (decide (l.val % 2 = 0 ∧ 2 ≤ l.val)) :=
  (by decide +kernel : ∀ l : Fin 200, IntOp.andi (IntOp.cmpi CmpIPredicate.eq (oddWord l) 0#32)
    (IntOp.cmpi CmpIPredicate.sge (BitVec.ofNat 32 l) 2#32) = BitVec.ofBool (decide (l.val % 2 = 0 ∧ 2 ≤ l.val))) l

/-- The bit of the one-hot, widened to a word: row `k` is the first or the second row. -/
def hotWord (l k : ℕ) (t p : BitVec 32) : BitVec 32 :=
  BitVec.setWidth 32
    (IntOp.ori (IntOp.cmpi CmpIPredicate.eq (BitVec.ofNat 32 k) (IntOp.addi t (IntOp.muli (32#32) (oddWord l))))
      (IntOp.cmpi CmpIPredicate.eq (BitVec.ofNat 32 k) (secondWord l p)))

/-- Two words are compared equal exactly when they are. -/
theorem cmpi_eq_word (a b : BitVec 32) : IntOp.cmpi CmpIPredicate.eq a b = BitVec.ofBool (decide (a = b)) := by
  by_cases h : a = b
  · subst h; simp [IntOp.cmpi]
  · have h' : (a == b) = false := by simp [h]
    simp [IntOp.cmpi, h, h']

/-- The disjunction of two decided bits, widened, is the disjunction decided. -/
theorem setWidth_ori (A B : Prop) [Decidable A] [Decidable B] :
    BitVec.setWidth 32 (IntOp.ori (BitVec.ofBool (decide A)) (BitVec.ofBool (decide B))) = if A ∨ B then 1#32 else 0#32 := by
  by_cases ha : A <;> by_cases hb : B <;> simp [ha, hb, IntOp.ori]

/-- The one-hot's bit is set exactly at the picked rows. -/
theorem hotWord_eq (l : Fin 200) (k : Fin 96) (t p : BitVec 32) (ht : t.toNat < 32) (hp : p.toNat < 32) :
    hotWord l k t p = if Picked l t.toNat p.toNat k then 1#32 else 0#32 := by
  have hk := k.isLt
  have hl := l.isLt
  have h1 : IntOp.cmpi CmpIPredicate.eq (BitVec.ofNat 32 k) (IntOp.addi t (IntOp.muli (32#32) (oddWord l)))
      = BitVec.ofBool (decide (k.val = t.toNat + 32 * (l.val % 2))) := by
    rw [cmpi_eq_word, oddWord_eq]
    congr 2
    rw [← BitVec.toNat_inj]
    simp only [IntOp.addi, IntOp.muli, BitVec.toNat_add, BitVec.toNat_mul, BitVec.toNat_ofNat, eq_iff_iff]
    omega
  have h2 : IntOp.cmpi CmpIPredicate.eq (BitVec.ofNat 32 k) (secondWord l p)
      = BitVec.ofBool (decide (l.val % 2 = 0 ∧ 2 ≤ l.val ∧ k.val = p.toNat + 64)) := by
    rw [cmpi_eq_word, secondWord, secondTest_eq]
    congr 2
    rw [← BitVec.toNat_inj]
    by_cases h : l.val % 2 = 0 ∧ 2 ≤ l.val
    · rw [decide_eq_true h, eq_iff_iff]
      show (BitVec.ofNat 32 k).toNat = (p + 64#32).toNat ↔ _
      simp only [BitVec.toNat_add, BitVec.toNat_ofNat]
      omega
    · rw [decide_eq_false h, eq_iff_iff]
      show (BitVec.ofNat 32 k).toNat = (4294967295#32).toNat ↔ _
      simp only [BitVec.toNat_ofNat]
      omega
  unfold hotWord
  rw [h1, h2, setWidth_ori]
  rfl

/-- The one-hot's entry as a number of the extended reals: one at the picked rows and zero elsewhere. -/
theorem hot_eq (l : Fin 200) (k : Fin 96) (t p : BitVec 32) (ht : t.toNat < 32) (hp : p.toNat < 32) :
    (FloatOps.sitofp FTy.f32 (hotWord l k t p) : Ideal .f32) = if Picked l t.toNat p.toNat k then (1 : EReal) else 0 := by
  rw [hotWord_eq l k t p ht hp]
  split
  · show (((1#32 : BitVec 32).toInt : ℝ) : EReal) = 1
    simp
  · show (((0#32 : BitVec 32).toInt : ℝ) : EReal) = 0
    simp

/-- The sum over the rows, at an odd place: the row of the second table. -/
theorem sum_odd (l t p : ℕ) (f : Fin 96 → EReal) (ht : t < 32) (hl : l % 2 = 1) :
    ∑ k : Fin 96, (if Picked l t p k then (1 : EReal) else 0) * f k = f ⟨t + 32, by omega⟩ := by
  rw [Finset.sum_eq_single (⟨t + 32, by omega⟩ : Fin 96)]
  · rw [if_pos (show Picked l t p (t + 32) from Or.inl (by rw [hl])), one_mul]
  · intro k _ hk
    rw [if_neg, zero_mul]
    rintro (h | h)
    · exact hk (Fin.ext (by simp only; omega))
    · omega
  · intro h; exact absurd (Finset.mem_univ _) h

/-- The sum over the rows, at the first place: the row of the first table. -/
theorem sum_first (t p : ℕ) (f : Fin 96 → EReal) (ht : t < 32) :
    ∑ k : Fin 96, (if Picked 0 t p k then (1 : EReal) else 0) * f k = f ⟨t, by omega⟩ := by
  rw [Finset.sum_eq_single (⟨t, by omega⟩ : Fin 96)]
  · rw [if_pos (show Picked 0 t p t from Or.inl rfl), one_mul]
  · intro k _ hk
    rw [if_neg, zero_mul]
    rintro (h | h)
    · exact hk (Fin.ext (by simp only; omega))
    · omega
  · intro h; exact absurd (Finset.mem_univ _) h

/-- The sum over the rows, at an even place from 2 on: the row of the first table and the row of the third. -/
theorem sum_even (l t p : ℕ) (f : Fin 96 → EReal) (ht : t < 32) (hp : p < 32) (hl : l % 2 = 0) (h2 : 2 ≤ l) :
    ∑ k : Fin 96, (if Picked l t p k then (1 : EReal) else 0) * f k = f ⟨t, by omega⟩ + f ⟨p + 64, by omega⟩ := by
  rw [Finset.sum_eq_add (⟨t, by omega⟩ : Fin 96) (⟨p + 64, by omega⟩ : Fin 96)]
  · rw [if_pos (show Picked l t p t from Or.inl (by omega)), if_pos (show Picked l t p (p + 64) from Or.inr ⟨hl, h2, rfl⟩), one_mul, one_mul]
  · intro h; have := Fin.ext_iff.mp h; simp only at this; omega
  · intro k _ hk
    rw [if_neg, zero_mul]
    rintro (h | h)
    · exact hk.1 (Fin.ext (by simp only; omega))
    · exact hk.2 (Fin.ext h.2.2)
  · intro h; exact absurd (Finset.mem_univ _) h
  · intro h; exact absurd (Finset.mem_univ _) h

end Cert.Proof

end
-- ==== Proof.Block.lean ====
module

public import proofs.«01_k».proof.Proof.Gen.KernelIdeal.Frame
public import proofs.«01_k».proof.Proof.SinCos
public import proofs.«01_k».proof.Proof.Lookup
public import Idealize.ShloMosaic.Lib.Pipeline.Value

/-! What one grid point of the kernel leaves in its block of the result. -/

@[expose] public section

set_option maxRecDepth 16384

noncomputable section

namespace Cert.Proof

open Idealize.ShloMosaic Cert.KernelIdeal Cert.KernelIdeal.Gen

/-- The rows of the combined table that a block's place picks, summed at a lane. -/
def blockEmb (x0 : Vec Ideal S32x200 .i32) (x2 : Vec Ideal S96x512 .f32) (b : Fin 32) (l : Fin 200) (h : Fin 512) : EReal :=
  ∑ k : Fin 96, (if Picked l (x0 (ix2 b l)).toNat (x0 (ix2 b ⟨l.val - 1, by omega⟩)).toNat k then (1 : EReal) else 0) * x2 (ix2 k h)

/-- The sinusoid of a block's position at a lane: by the reciprocals of the row of frequencies in its first half, and
    by division in its second. -/
def blockWave (x1 : Vec Ideal S32x200 .f32) (x3 : Vec Ideal S1x256 .f32) (b : Fin 32) (l : Fin 200) (h : Fin 512) : EReal :=
  if h.val < 128 then Ideal.sin (x1 (ix2 b l) * x3 (ix2 0 ⟨h.val % 256, by omega⟩))
  else if h.val < 256 then Ideal.sin (Ideal.div (x1 (ix2 b l)) (x3 (ix2 0 ⟨h.val % 256, by omega⟩)))
  else if h.val < 384 then Ideal.cos (x1 (ix2 b l) * x3 (ix2 0 ⟨h.val % 256, by omega⟩))
  else Ideal.cos (Ideal.div (x1 (ix2 b l)) (x3 (ix2 0 ⟨h.val % 256, by omega⟩)))

/-- The constant named pi is pi. -/
theorem named_pi : (Named.named κ "pi" 1078530011#32 : Ideal .f32) = ((Real.pi : ℝ) : EReal) := rfl

/-- The constant named m1 is the first part of 256 pi. -/
theorem named_m1 : (Named.named κ "m1" 1145638912#32 : Ideal .f32) = (((4503612398652171 / 17592186044416) * Real.pi : ℝ) : EReal) := rfl

/-- The constant named m2 is the second part of 256 pi. -/
theorem named_m2 : (Named.named κ "m2" 3138746234#32 : Ideal .f32) = (((-12771281675 / 17592186044416) * Real.pi : ℝ) : EReal) := rfl

/-- The matmul of the one-hot rows with the combined table is the sum of the picked rows. -/
theorem emb_apply (x0 : Vec Ideal S32x200 .i32) (x2 : Vec Ideal S96x512 .f32) (hx : ∀ b l, (x0 (ix2 b l)).toNat < 32)
    (b : Fin 32) (l : Fin 200) (h : Fin 512) : k0_pay2 (k0_pay1 x0) x2 (ix3 b l h) = blockEmb x0 x2 b l h := by
  pointwise [k0_pay2, k0_pay1]
  unfold blockEmb
  refine Finset.sum_congr rfl fun k _ => ?_
  have hprev : (if h : l.val < 1 then x0 (ix2 b l) else x0 (ix2 b ⟨l.val - 1, by omega⟩)) = x0 (ix2 b ⟨l.val - 1, by omega⟩) := by
    split
    · congr 2; exact Fin.ext (by simp only; omega)
    · rfl
  rw [hprev]
  exact congrArg (· * x2 (ix2 k h)) (hot_eq l k (x0 (ix2 b l)) _ (hx _ _) (hx _ _))

/-- The first stretch of lanes: the sine of the position times the reciprocal. -/
theorem sin_lo_apply (x1 : Vec Ideal S32x200 .f32) (x3 : Vec Ideal S1x256 .f32) (b : Fin 32) (l : Fin 200) (h : Fin 128) :
    k0_pay9 x1 x3 (ix3 b l h) = Ideal.sin (x1 (ix2 b l) * x3 (ix2 0 ⟨h.val, by omega⟩)) := by
  pointwise [k0_pay9, k0_pay8, k0_pay7, k0_pay6, k0_pay4, k0_pay3]
  exact sin_reduced _

/-- The third stretch of lanes: the cosine of the position times the reciprocal. -/
theorem cos_lo_apply (x1 : Vec Ideal S32x200 .f32) (x3 : Vec Ideal S1x256 .f32) (b : Fin 32) (l : Fin 200) (h : Fin 128) :
    k0_pay10 x1 x3 (ix3 b l h) = Ideal.cos (x1 (ix2 b l) * x3 (ix2 0 ⟨h.val, by omega⟩)) := by
  pointwise [k0_pay10, k0_pay8, k0_pay7, k0_pay6, k0_pay4, k0_pay3]
  exact cos_reduced _

/-- The second stretch of lanes: the embedding and the sine of the position over the period. -/
theorem sin_hi_apply (e : FVec Ideal S32x200x512 .f32) (x1 : Vec Ideal S32x200 .f32) (x3 : Vec Ideal S1x256 .f32)
    (b : Fin 32) (l : Fin 200) (h : Fin 128) :
    k0_pay18 e (k0_pay11 x1 x3) (k0_pay12 x1 x3) (ix3 b l h)
      = e (ix3 b l ⟨128 + h.val, by omega⟩) + Ideal.sin (Ideal.div (x1 (ix2 b l)) (x3 (ix2 0 ⟨128 + h.val, by omega⟩))) := by
  pointwise [k0_pay18, k0_pay16, k0_pay15, k0_pay14, k0_pay13, k0_pay12, k0_pay11, k0_pay5, k0_pay3]
  exact congrArg (_ + ·) ((sin_reduced (shifted _)).trans (sin_shifted _))

/-- The fourth stretch of lanes: the embedding and the cosine of the position over the period. -/
theorem cos_hi_apply (e : FVec Ideal S32x200x512 .f32) (x1 : Vec Ideal S32x200 .f32) (x3 : Vec Ideal S1x256 .f32)
    (b : Fin 32) (l : Fin 200) (h : Fin 128) :
    k0_pay20 e (k0_pay11 x1 x3) (k0_pay12 x1 x3) (ix3 b l h)
      = e (ix3 b l ⟨384 + h.val, by omega⟩) + Ideal.cos (Ideal.div (x1 (ix2 b l)) (x3 (ix2 0 ⟨128 + h.val, by omega⟩))) := by
  pointwise [k0_pay20, k0_pay16, k0_pay15, k0_pay14, k0_pay13, k0_pay12, k0_pay11, k0_pay5, k0_pay3]
  exact congrArg (_ + ·) ((cos_reduced (shifted _)).trans (cos_shifted _))

/-- Where a stretch of 128 lanes from lane `o` places its index. -/
theorem emb_ix3 (o : Nat) (inb : ∀ a, (![0, 0, o] : Fin 3 → Nat) a + S32x200x128.size a ≤ S32x200x512.size a)
    (b : Fin 32) (l : Fin 200) (h : Fin 128) (ho : o + 128 ≤ 512) :
    (Rect.unit (s := S32x200x512) ![0, 0, o] S32x200x128.size inb).emb (ix3 b l h : S32x200x128.Idx) = ix3 b l ⟨o + h.val, by omega⟩ := by
  funext a
  refine Fin.ext ?_
  match a with
  | ⟨0, _⟩ => show 0 + 1 * b.val = b.val; omega
  | ⟨1, _⟩ => show 0 + 1 * l.val = l.val; omega
  | ⟨2, _⟩ => show o + 1 * h.val = o + h.val; omega

/-- The first stretch: the embedding and the value computed for it. -/
theorem first_apply (e : FVec Ideal S32x200x512 .f32) (v : FVec Ideal S32x200x128 .f32) (b : Fin 32) (l : Fin 200) (h : Fin 128) :
    k0_pay17 e v (ix3 b l h) = e (ix3 b l ⟨0 + h.val, by omega⟩) + v (ix3 b l h) := by
  pointwise [k0_pay17]

/-- The third stretch: the embedding and the value computed for it. -/
theorem third_apply (e : FVec Ideal S32x200x512 .f32) (v : FVec Ideal S32x200x128 .f32) (b : Fin 32) (l : Fin 200) (h : Fin 128) :
    k0_pay19 e v (ix3 b l h) = e (ix3 b l ⟨256 + h.val, by omega⟩) + v (ix3 b l h) := by
  pointwise [k0_pay19]

/-- A stretch of 128 lanes from lane `o` holds a function of the whole block, when it does so at each of its indices. -/
theorem piece (o : Nat) (ho : o + 128 ≤ 512) (inb : ∀ a, (![0, 0, o] : Fin 3 → Nat) a + S32x200x128.size a ≤ S32x200x512.size a)
    (v : FVec Ideal S32x200x128 .f32) (G : Fin 32 → Fin 200 → Fin 512 → EReal)
    (hv : ∀ (b : Fin 32) (l : Fin 200) (h : Fin 128), v (ix3 b l h) = G b l ⟨o + h.val, by omega⟩) (x : S32x200x128.Idx) :
    v x = (fun y : S32x200x512.Idx => G (y 0) (y 1) (y 2)) ((Rect.unit (s := S32x200x512) ![0, 0, o] S32x200x128.size inb).emb x) := by
  obtain ⟨b, l, h, rfl⟩ : ∃ (b : Fin 32) (l : Fin 200) (h : Fin 128), x = ix3 b l h := ⟨x 0, x 1, x 2, eq_ix3 x⟩
  rw [emb_ix3 o inb b l h ho]
  exact hv b l h

/-- What the body leaves in the result's block: the picked rows and the sinusoid. -/
theorem out_apply (x0 : Vec Ideal S32x200 .i32) (x1 : Vec Ideal S32x200 .f32) (x2 : Vec Ideal S96x512 .f32) (x3 : Vec Ideal S1x256 .f32)
    (hx : ∀ b l, (x0 (ix2 b l)).toNat < 32) (b : Fin 32) (l : Fin 200) (h : Fin 512) :
    out0_4 x0 x1 x2 x3 (ix3 b l h) = blockEmb x0 x2 b l h + blockWave x1 x3 b l h := by
  unfold out0_4 k0_pay23 k0_pay22 k0_pay21
  have e0 : View.ld x0 r0_0 = x0 := View.ld_unit_zero (by decide) _ _
  have e1 : View.ld x1 r0_0 = x1 := View.ld_unit_zero (by decide) _ _
  have e2 : View.ld x2 r0_1 = x2 := View.ld_unit_zero (by decide) _ _
  have e3 : View.ld x3 r0_2 = x3 := View.ld_unit_zero (by decide) _ _
  rw [e0, e1, e2, e3]
  refine View.canon_apply_of_pieces (Val := Elt Ideal) (S := S32x200x512) (e := .f32)
    (fun y : S32x200x512.Idx => blockEmb x0 x2 (y 0) (y 1) (y 2) + blockWave x1 x3 (y 0) (y 1) (y 2)) _ ?_ _ (cover0_4 _ _ _ _ _)
  intro p hp x
  simp only [List.mem_cons, List.not_mem_nil, or_false] at hp
  rcases hp with rfl | rfl | rfl | rfl
  · refine piece 384 (by omega) (by decide) _ (fun b l h => blockEmb x0 x2 b l h + blockWave x1 x3 b l h) (fun b l h => ?_) x
    dsimp only
    rw [cos_hi_apply, emb_apply _ _ hx]
    refine congrArg (_ + ·) ?_
    unfold blockWave
    rw [if_neg (by simp only; omega), if_neg (by simp only; omega), if_neg (by simp only; omega)]
    congr 4
    exact Fin.ext (by simp only; omega)
  · refine piece 256 (by omega) (by decide) _ (fun b l h => blockEmb x0 x2 b l h + blockWave x1 x3 b l h) (fun b l h => ?_) x
    dsimp only
    rw [third_apply, cos_lo_apply, emb_apply _ _ hx]
    refine congrArg (_ + ·) ?_
    unfold blockWave
    rw [if_neg (by simp only; omega), if_neg (by simp only; omega), if_pos (by simp only; omega)]
    congr 4
    exact Fin.ext (by simp only; omega)
  · refine piece 128 (by omega) (by decide) _ (fun b l h => blockEmb x0 x2 b l h + blockWave x1 x3 b l h) (fun b l h => ?_) x
    dsimp only
    rw [sin_hi_apply, emb_apply _ _ hx]
    refine congrArg (_ + ·) ?_
    unfold blockWave
    rw [if_neg (by simp only; omega), if_pos (by simp only; omega)]
    congr 4
    exact Fin.ext (by simp only; omega)
  · refine piece 0 (by omega) (by decide) _ (fun b l h => blockEmb x0 x2 b l h + blockWave x1 x3 b l h) (fun b l h => ?_) x
    dsimp only
    rw [first_apply, sin_lo_apply, emb_apply _ _ hx]
    refine congrArg (_ + ·) ?_
    unfold blockWave
    rw [if_pos (by simp only; omega)]
    congr 4
    exact Fin.ext (by simp only; omega)

end Cert.Proof

end
-- ==== Proof.Spec.lean ====
module

public import proofs.«01_k».proof.Proof.Gen.KernelIdeal
public import Idealize.ShloMosaic.Lib.Pointwise

/-! The function that the kernel and the reference both compute, over the extended reals. -/

@[expose] public section

noncomputable section

namespace Cert.Proof

open Idealize.ShloMosaic

/-- The shape of the tokens and of the positions. -/
abbrev STok : Shape := ⟨2, ![1024, 200]⟩
/-- The shape of the tokens' table. -/
abbrev STab : Shape := ⟨2, ![32, 512]⟩
/-- The shape of the indices' table. -/
abbrev SIdx : Shape := ⟨2, ![512, 512]⟩
/-- The shape of the result. -/
abbrev SOut : Shape := ⟨3, ![1024, 200, 512]⟩

/-- The period divisor of frequency `k`, as the number that its word denotes. -/
def period (k : Fin 256) : EReal := Ideal.ofBits .f32 (Cert.KernelIdeal.lit0 k)

/-- The sinusoid of `x` at lane `h`: the sines in the first half of the lanes, the cosines in the second. -/
def wave (x : EReal) (h : Fin 512) : EReal :=
  if hh : h.val < 256 then Ideal.sin (Ideal.div x (period ⟨h.val, hh⟩))
  else Ideal.cos (Ideal.div x (period ⟨h.val - 256, by omega⟩))

/-- Every token lies in the table. -/
def InTable (T : STok.Idx → BitVec 32) : Prop := ∀ (b : Fin 1024) (l : Fin 200), (T (ix2 b l)).toNat < 32

/-- The embedding of the token at place `l` of row `b`: at an odd place the row of the index table, at place 0 the row
    of the token table, and at a later even place the row of the token table and the sinusoid of the token before. -/
def embed (T : STok.Idx → BitVec 32) (hT : InTable T) (A : STab.Idx → EReal) (B : SIdx.Idx → EReal)
    (b : Fin 1024) (l : Fin 200) (h : Fin 512) : EReal :=
  if l.val % 2 = 1 then B (ix2 ⟨(T (ix2 b l)).toNat, by have := hT b l; omega⟩ h)
  else if l.val = 0 then A (ix2 ⟨(T (ix2 b l)).toNat, hT b l⟩ h)
  else A (ix2 ⟨(T (ix2 b l)).toNat, hT b l⟩ h) + wave (((T (ix2 b ⟨l.val - 1, by omega⟩)).toNat : ℝ) : EReal) h

/-- The result: the embedding of the token and the sinusoid of the position. -/
def result (T : STok.Idx → BitVec 32) (hT : InTable T) (P : STok.Idx → EReal) (A : STab.Idx → EReal) (B : SIdx.Idx → EReal)
    (b : Fin 1024) (l : Fin 200) (h : Fin 512) : EReal :=
  embed T hT A B b l h + wave (P (ix2 b l)) h

end Cert.Proof

end
-- ==== Proof.Host.lean ====
module

public import proofs.«01_k».proof.Proof.Gen.KernelIdeal.Frame
public import proofs.«01_k».proof.Proof.Spec
public import proofs.«01_k».proof.Proof.SinCos
public import Idealize.ShloMosaic.Lib.Pipeline.Value
public import Idealize.ShloMosaic.Lib.IdealHost

/-! What the kernel's combined table and its row of frequencies hold when the grid starts. -/

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ)

/-- The table of periods, as the host computes with it. -/
def periods : FVec Ideal S256 .f32 := fun i => FloatOps.ofBits .f32 (lit0 (S256.rowMajor i))

/-- The sinusoids' arguments of the numbers below 32. -/
def smallArgs : FVec Ideal S32x256 .f32 :=
  Host.divf (broadcastInDim S32x256 ![0, 1] bcast_S32x1_S32x256_0_1 (broadcastInDim S32x1 ![0] bcast_S32_S32x1_0 (sitofp .f32 (iotaInDim S32 32 0))))
    (broadcastInDim S32x256 ![0, 1] bcast_S1x256_S32x256_0_1 (broadcastInDim S1x256 ![1] bcast_S256_S1x256_1 periods))

/-- The sinusoids of the numbers below 32, a row for each. -/
def smallWaves : FVec Ideal S32x512 .f32 :=
  concatenate S32x512 1 [⟨S32x256, Host.sin smallArgs⟩, ⟨S32x256, Host.cos smallArgs⟩] concatenates_S32x256_S32x256_S32x512_d1

/-- The combined table of three tables: a first, the first rows of a second, and a third. -/
def combined (A : FVec Ideal S32x512 .f32) (B : FVec Ideal S512x512 .f32) (C : FVec Ideal S32x512 .f32) : FVec Ideal S96x512 .f32 :=
  concatenate S96x512 0 [⟨S32x512, A⟩, ⟨S32x512, extractStridedSlice S32x512 ![0, 0] B slices_S512x512_S32x512_0_0⟩, ⟨S32x512, C⟩]
    concatenates_S32x512_S32x512_S32x512_S96x512_d0

/-- The row of frequencies: the reciprocals of the first 128 periods, and the other periods themselves. -/
def frequencies : FVec Ideal S1x256 .f32 :=
  shapeCast S1x256 (concatenate S256 0 [⟨S128, Host.divf (broadcastInDim S128 ![] bcast_S_S128 (constant S_ .f32 0x3F800000#32)) (extractStridedSlice S128 ![0] periods slices_S256_S128_0)⟩,
    ⟨S128, extractStridedSlice S128 ![128] periods slices_S256_S128_128⟩] concatenates_S128_S128_S256_d0) shapeCasts_S256_S1x256

/-- The grid finds the combined table in its third input. -/
theorem V_table (c : Dev nD) : V m c main_v10 = combined (m ((c : Thread nD τ).loc main_arg2)) (m ((c : Thread nD τ).loc main_arg3)) smallWaves := by
  unfold V
  after_results
  rfl

/-- The grid finds the row of frequencies in its fourth input. -/
theorem V_freq (c : Dev nD) : V m c main_v16 = frequencies := by
  unfold V
  after_results
  rfl

/-- A list's only index is its place. -/
theorem rowMajor_one (k : Fin 256) : S256.rowMajor (ix1 k) = k := Fin.ext (Shape.rowMajor_val_one _)

/-- The number that a small natural denotes as an integer word. -/
theorem small_real (t : Nat) (ht : t < 32) : (FloatOps.sitofp FTy.f32 (BitVec.ofNat 32 t) : Ideal .f32) = ((t : ℝ) : EReal) := by
  show (((BitVec.ofNat 32 t).toInt : ℝ) : EReal) = _
  rw [show (BitVec.ofNat 32 t).toInt = (t : Int) by simp [BitVec.toInt]; omega]
  rfl

/-- A row of the combined table below 32 is the first table's. -/
theorem combined_first (A : FVec Ideal S32x512 .f32) (B : FVec Ideal S512x512 .f32) (C : FVec Ideal S32x512 .f32) (t : Nat) (ht : t < 32) (h : Fin 512) :
    combined A B C (ix2 ⟨t, by omega⟩ h) = A (ix2 ⟨t, ht⟩ h) := by
  pointwise [combined]
  rw [dif_pos ht]

/-- A row of the combined table from 32 is the second table's. -/
theorem combined_second (A : FVec Ideal S32x512 .f32) (B : FVec Ideal S512x512 .f32) (C : FVec Ideal S32x512 .f32) (t : Nat) (ht : t < 32) (h : Fin 512) :
    combined A B C (ix2 ⟨t + 32, by omega⟩ h) = B (ix2 ⟨t, by omega⟩ h) := by
  pointwise [combined]
  rw [dif_neg (by omega), dif_pos (by omega)]
  exact congrArg (fun k => B (ix2 k h)) (Fin.ext (Nat.add_sub_cancel t 32))

/-- A row of the combined table from 64 is the third table's. -/
theorem combined_third (A : FVec Ideal S32x512 .f32) (B : FVec Ideal S512x512 .f32) (C : FVec Ideal S32x512 .f32) (t : Nat) (ht : t < 32) (h : Fin 512) :
    combined A B C (ix2 ⟨t + 64, by omega⟩ h) = C (ix2 ⟨t, ht⟩ h) := by
  pointwise [combined]
  rw [dif_neg (by omega), dif_neg (by omega)]
  exact congrArg (fun k => C (ix2 k h)) (Fin.ext (by simp only; omega))

/-- A row of the sinusoids of the numbers below 32. -/
theorem smallWaves_apply (t : Nat) (ht : t < 32) (h : Fin 512) : smallWaves (ix2 ⟨t, ht⟩ h) = wave ((t : ℝ) : EReal) h := by
  pointwise [smallWaves, smallArgs, periods]
  rw [small_real t ht]
  unfold wave period
  split
  · rw [rowMajor_one]
  · rw [rowMajor_one]

/-- A lane of the row of frequencies. -/
theorem frequencies_apply (k : Fin 256) : frequencies (ix2 0 k) = if k.val < 128 then Ideal.div 1 (period k) else period k := by
  pointwise [frequencies, periods]
  rw [rowMajor_one]
  split
  · rfl
  · have e : (⟨128 + (k.val - 128), by omega⟩ : Fin 256) = k := Fin.ext (by simp only; omega)
    exact congrArg period ((rowMajor_one _).trans e)

/-- The exponents of the periods' words are neither the least nor the greatest. -/
theorem period_exponents : ∀ k : Fin 256, ((lit0 k).extractLsb' 23 8).toNat ≠ 0 ∧ ((lit0 k).extractLsb' 23 8).toNat ≠ 255 := by
  decide +kernel

/-- No period is zero. -/
theorem period_ne_zero (k : Fin 256) : period k ≠ 0 := word_ne_zero _ (period_exponents k).1 (period_exponents k).2

end Cert.Proof

end
-- ==== Proof.KernelValue.lean ====
module

public import proofs.«01_k».proof.Proof.Gen.KernelIdeal.Value
public import proofs.«01_k».proof.Proof.Block
public import proofs.«01_k».proof.Proof.Host
public import Idealize.ShloMosaic.Lib.Pipeline.ValueKit.Geometry

/-! The array that the kernel leaves. -/

@[expose] public section

set_option maxRecDepth 16384

noncomputable section

namespace Cert.Proof

open Idealize.ShloMosaic Idealize.ShloMosaic.TcCoe Cert.KernelIdeal Cert.KernelIdeal.Gen
open Idealize.ShloMosaic.Pipeline (Dat)

/-- With the row of frequencies, a block's sinusoid is the sinusoid of its position. -/
theorem blockWave_eq (x1 : Vec Ideal S32x200 .f32) (b : Fin 32) (l : Fin 200) (h : Fin 512) :
    blockWave x1 frequencies b l h = wave (x1 (ix2 b l)) h := by
  unfold blockWave wave
  rw [frequencies_apply]
  by_cases h2 : h.val < 256
  · have e : (⟨h.val % 256, by omega⟩ : Fin 256) = ⟨h.val, h2⟩ := Fin.ext (Nat.mod_eq_of_lt h2)
    rw [e, dif_pos h2]
    by_cases h1 : h.val < 128
    · rw [if_pos h1, if_pos h1, Ideal.mul_one_div (period_ne_zero _)]
    · rw [if_neg h1, if_pos h2, if_neg h1]
  · have e : (⟨h.val % 256, by omega⟩ : Fin 256) = ⟨h.val - 256, by omega⟩ := Fin.ext (by show h.val % 256 = h.val - 256; omega)
    rw [e, dif_neg h2, if_neg (by omega), if_neg h2]
    by_cases h3 : h.val < 384
    · rw [if_pos h3, if_pos (by show h.val - 256 < 128; omega), Ideal.mul_one_div (period_ne_zero _)]
    · rw [if_neg h3, if_neg (by show ¬ h.val - 256 < 128; omega)]

/-- With the combined table, the picked rows of a block are the embedding of its tokens: here at an odd place. -/
theorem blockEmb_odd (x0 : Vec Ideal S32x200 .i32) (hx : ∀ b l, (x0 (ix2 b l)).toNat < 32) (A : FVec Ideal S32x512 .f32) (B : FVec Ideal S512x512 .f32)
    (b : Fin 32) (l : Fin 200) (h : Fin 512) (hl : l.val % 2 = 1) :
    blockEmb x0 (combined A B smallWaves) b l h = B (ix2 ⟨(x0 (ix2 b l)).toNat, by have := hx b l; omega⟩ h) :=
  (sum_odd l.val _ _ (fun k => combined A B smallWaves (ix2 k h)) (hx b l) hl).trans (combined_second A B smallWaves _ (hx b l) h)

/-- The same at place 0. -/
theorem blockEmb_first (x0 : Vec Ideal S32x200 .i32) (hx : ∀ b l, (x0 (ix2 b l)).toNat < 32) (A : FVec Ideal S32x512 .f32) (B : FVec Ideal S512x512 .f32)
    (b : Fin 32) (l : Fin 200) (h : Fin 512) (hl : l.val = 0) :
    blockEmb x0 (combined A B smallWaves) b l h = A (ix2 ⟨(x0 (ix2 b l)).toNat, hx b l⟩ h) := by
  obtain rfl : l = 0 := Fin.ext hl
  exact (sum_first _ _ (fun k => combined A B smallWaves (ix2 k h)) (hx b 0)).trans (combined_first A B smallWaves _ (hx b 0) h)

/-- The same at a later even place. -/
theorem blockEmb_even (x0 : Vec Ideal S32x200 .i32) (hx : ∀ b l, (x0 (ix2 b l)).toNat < 32) (A : FVec Ideal S32x512 .f32) (B : FVec Ideal S512x512 .f32)
    (b : Fin 32) (l : Fin 200) (h : Fin 512) (hl : l.val % 2 = 0) (h2 : 2 ≤ l.val) :
    blockEmb x0 (combined A B smallWaves) b l h
      = A (ix2 ⟨(x0 (ix2 b l)).toNat, hx b l⟩ h) + wave (((x0 (ix2 b ⟨l.val - 1, by omega⟩)).toNat : ℝ) : EReal) h := by
  refine (sum_even l.val _ _ (fun k => combined A B smallWaves (ix2 k h)) (hx b l) (hx b _) hl h2).trans ?_
  rw [combined_first A B smallWaves _ (hx b l) h, combined_third A B smallWaves _ (hx b _) h, smallWaves_apply _ (hx b _)]

variable (m : (ℓ : Loc nD τ sig) → Buf (Elt Ideal) ℓ)

/-- The blocks' numbers at a grid point. -/
theorem places : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0 ∧ win0_4.index t 2 = 0) := by
  decide +kernel

/-- The row of the array at row `b` of a point's block. -/
def row (t : Fin cfg0.N) (b : Fin 32) : Fin 1024 := ⟨t.val * 32 + b.val, by have : t.val < 32 := t.isLt; omega⟩

/-- A point's block of the tokens is 32 rows of them. -/
theorem tokens_block (c : Dev nD) (t : Fin cfg0.N) (b : Fin 32) (l : Fin 200) :
    iblk m c 0 t (ix2 b l) = m ((c : Thread nD τ).loc main_arg0) (ix2 (row t b) l) := by
  rw [← V_main_arg0 m c]
  refine congrArg (V m c main_arg0) (funext fun a => Fin.ext ?_)
  have e0 := (places t).1.1
  have e1 := (places t).1.2
  match a with
  | ⟨0, _⟩ => blk_simp [e0]; rfl
  | ⟨1, _⟩ => blk_simp [e1]

/-- A point's block of the positions is 32 rows of them. -/
theorem positions_block (c : Dev nD) (t : Fin cfg0.N) (b : Fin 32) (l : Fin 200) :
    iblk m c 1 t (ix2 b l) = m ((c : Thread nD τ).loc main_arg1) (ix2 (row t b) l) := by
  rw [← V_main_arg1 m c]
  refine congrArg (V m c main_arg1) (funext fun a => Fin.ext ?_)
  have e0 := (places t).2.1.1
  have e1 := (places t).2.1.2
  match a with
  | ⟨0, _⟩ => blk_simp [e0]; rfl
  | ⟨1, _⟩ => blk_simp [e1]

/-- Every point's block of the combined table is the table. -/
theorem table_block (c : Dev nD) (t : Fin cfg0.N) :
    iblk m c 2 t = combined (m ((c : Thread nD τ).loc main_arg2)) (m ((c : Thread nD τ).loc main_arg3)) smallWaves := by
  rw [← V_table m c]
  funext y
  refine congrArg (V m c main_v10) (funext fun a => Fin.ext ?_)
  have e0 := (places t).2.2.1.1
  have e1 := (places t).2.2.1.2
  match a with
  | ⟨0, _⟩ => blk_simp [e0]
  | ⟨1, _⟩ => blk_simp [e1]

/-- Every point's block of the frequencies is their row. -/
theorem freq_block (c : Dev nD) (t : Fin cfg0.N) : iblk m c 3 t = frequencies := by
  rw [← V_freq m c]
  funext y
  refine congrArg (V m c main_v16) (funext fun a => Fin.ext ?_)
  have e0 := (places t).2.2.2.1.1
  have e1 := (places t).2.2.2.1.2
  match a with
  | ⟨0, _⟩ => blk_simp [e0]
  | ⟨1, _⟩ => blk_simp [e1]

/-- Where a point's block of the result lies in it. -/
theorem result_place (t : Fin cfg0.N) (b : Fin 32) (l : Fin 200) (h : Fin 512) :
    ((win0_4.blk t).view.emb (ix3 b l h : S32x200x512.Idx) : S1024x200x512.Idx) = ix3 (row t b) l h := by
  have e0 := (places t).2.2.2.2.1
  have e1 := (places t).2.2.2.2.2.1
  have e2 := (places t).2.2.2.2.2.2
  refine funext fun a => Fin.ext ?_
  match a with
  | ⟨0, _⟩ => blk_simp [e0]; rfl
  | ⟨1, _⟩ => blk_simp [e1]
  | ⟨2, _⟩ => blk_simp [e2]

/-- The kernel's array after its grid: the embedding of the tokens and the sinusoid of the positions. -/
theorem kernel_array (c : Dev nD) (hT : InTable (m ((c : Thread nD τ).loc main_arg0))) :
    (dats m 0 c).arrAt 4 cfg0.N = fun y : S1024x200x512.Idx => result (m ((c : Thread nD τ).loc main_arg0)) hT (m ((c : Thread nD τ).loc main_arg1))
      (m ((c : Thread nD τ).loc main_arg2)) (m ((c : Thread nD τ).loc main_arg3)) (y 0) (y 1) (y 2) := by
  refine (dats m 0 c).arrAt_eq_of_covers 4 _ (by decide +kernel) fun t hf y => ?_
  blk_simp
  rw [after0_4]
  obtain ⟨b, l, h, rfl⟩ : ∃ (b : Fin 32) (l : Fin 200) (h : Fin 512), y = ix3 b l h := ⟨y 0, y 1, y 2, eq_ix3 y⟩
  have hx : ∀ b l, (iblk m c 0 t (ix2 b l) : BitVec 32).toNat < 32 := fun b l => by rw [tokens_block]; exact hT _ _
  have hp := result_place t b l h
  refine (out_apply _ _ _ _ hx b l h).trans (Eq.trans ?_ (congrArg (fun y : S1024x200x512.Idx => result (m ((c : Thread nD τ).loc main_arg0)) hT
    (m ((c : Thread nD τ).loc main_arg1)) (m ((c : Thread nD τ).loc main_arg2)) (m ((c : Thread nD τ).loc main_arg3)) (y 0) (y 1) (y 2)) hp.symm))
  show _ = embed _ hT _ _ (row t b) l h + wave _ h
  rw [freq_block, blockWave_eq, positions_block, table_block]
  refine congrArg (· + _) ?_
  unfold embed
  split
  · rename_i hl
    rw [blockEmb_odd _ hx _ _ _ _ _ hl]
    simp only [tokens_block]
  · rename_i hl
    split
    · rename_i h0
      rw [blockEmb_first _ hx _ _ _ _ _ h0]
      simp only [tokens_block]
    · rename_i h0
      rw [blockEmb_even _ hx _ _ _ _ _ (by omega) (by omega)]
      simp only [tokens_block]

end Cert.Proof

end
-- ==== Proof.Take.lean ====
module

public import Idealize.ShloMosaic.Lib.Pointwise
public import Idealize.ShloMosaic.Lib.ReduceAll

/-! Looking up rows of a table by integer words, as a host program does. -/

@[expose] public section

namespace Cert.Proof

open Idealize.ShloMosaic

/-- A word below a small bound read as a signed integer is the natural that it denotes. -/
theorem toInt_small (w : BitVec 32) (h : w.toNat < 2 ^ 31) : w.toInt.toNat = w.toNat := by
  rw [BitVec.toInt_eq_toNat_of_lt (by omega)]; rfl

/-- The dimension numbers of a lookup of whole rows by a matrix of row numbers. -/
abbrev rowsDims3 (N K R C : Nat) (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- The dimension numbers of a lookup of whole rows by a list of row numbers. -/
abbrev rowsDims2 (N K R : Nat) (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

variable {α : Type}

/-- A lookup by a matrix of row numbers, where the number is in range: the row it names. -/
theorem gather_rows3 {N K R C : Nat} (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ 32) (b : Fin R) (j : Fin C) (h : Fin K) (hN : N < 2 ^ 31)
    (hi : (idx (ix3 b j 0)).toNat < N) : Host.gather (rowsDims3 N K R C wf) x idx (ix3 b j h) = x (ix2 ⟨(idx (ix3 b j 0)).toNat, hi⟩ h) := by
  unfold Host.gather
  refine congrArg x (funext fun a => Fin.ext ?_)
  match a with
  | ⟨0, _⟩ =>
    show (rowsDims3 N K R C wf).start (ix3 b j h) idx 0 + (rowsDims3 N K R C wf).batchCoord (ix3 b j h) 0
      + (rowsDims3 N K R C wf).offCoord (ix3 b j h) 0 = (idx (ix3 b j 0)).toNat
    rw [GatherDims.batchCoord_eq_zero _ _ _ List.not_mem_nil,
      GatherDims.offCoord_eq_zero _ _ _ (fun hk => ((GatherDims.mem_sKept _ _).mp hk).1 (List.mem_singleton.mpr rfl)), Nat.add_zero]
    unfold GatherDims.start
    rw [dif_pos (show (0 : Fin 2) ∈ (rowsDims3 N K R C wf).startIndexMap from List.mem_singleton.mpr rfl)]
    have hsi : (rowsDims3 N K R C wf).siIdx (ix3 b j h) ⟨List.idxOf (0 : Fin 2) (rowsDims3 N K R C wf).startIndexMap,
        List.idxOf_lt_length_iff.2 (List.mem_singleton.mpr rfl)⟩ = ix3 b j 0 := by
      funext q; refine Fin.ext ?_
      match q with
      | ⟨0, _⟩ => rfl
      | ⟨1, _⟩ => rfl
      | ⟨2, _⟩ => rfl
    rw [hsi, toInt_small _ (by omega)]
    show min (idx (ix3 b j 0)).toNat (N - 1) = _
    omega
  | ⟨1, _⟩ =>
    show (rowsDims3 N K R C wf).start (ix3 b j h) idx 1 + (rowsDims3 N K R C wf).batchCoord (ix3 b j h) 1
      + (rowsDims3 N K R C wf).offCoord (ix3 b j h) 1 = h.val
    rw [GatherDims.batchCoord_eq_zero _ _ _ List.not_mem_nil]
    unfold GatherDims.start
    rw [dif_neg (show (1 : Fin 2) ∉ ([0] : List (Fin 2)) by decide), Nat.zero_add]
    rfl

/-- A lookup by a list of row numbers, where the number is in range: the row it names. -/
theorem gather_rows2 {N K R : Nat} (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ 32) (b : Fin R) (h : Fin K) (hN : N < 2 ^ 31)
    (hi : (idx (ix2 b 0)).toNat < N) : Host.gather (rowsDims2 N K R wf) x idx (ix2 b h) = x (ix2 ⟨(idx (ix2 b 0)).toNat, hi⟩ h) := by
  unfold Host.gather
  refine congrArg x (funext fun a => Fin.ext ?_)
  match a with
  | ⟨0, _⟩ =>
    show (rowsDims2 N K R wf).start (ix2 b h) idx 0 + (rowsDims2 N K R wf).batchCoord (ix2 b h) 0
      + (rowsDims2 N K R wf).offCoord (ix2 b h) 0 = (idx (ix2 b 0)).toNat
    rw [GatherDims.batchCoord_eq_zero _ _ _ List.not_mem_nil,
      GatherDims.offCoord_eq_zero _ _ _ (fun hk => ((GatherDims.mem_sKept _ _).mp hk).1 (List.mem_singleton.mpr rfl)), Nat.add_zero]
    unfold GatherDims.start
    rw [dif_pos (show (0 : Fin 2) ∈ (rowsDims2 N K R wf).startIndexMap from List.mem_singleton.mpr rfl)]
    have hsi : (rowsDims2 N K R wf).siIdx (ix2 b h) ⟨List.idxOf (0 : Fin 2) (rowsDims2 N K R wf).startIndexMap,
        List.idxOf_lt_length_iff.2 (List.mem_singleton.mpr rfl)⟩ = ix2 b 0 := by
      funext q; refine Fin.ext ?_
      match q with
      | ⟨0, _⟩ => rfl
      | ⟨1, _⟩ => rfl
    rw [hsi, toInt_small _ (by omega)]
    show min (idx (ix2 b 0)).toNat (N - 1) = _
    omega
  | ⟨1, _⟩ =>
    show (rowsDims2 N K R wf).start (ix2 b h) idx 1 + (rowsDims2 N K R wf).batchCoord (ix2 b h) 1
      + (rowsDims2 N K R wf).offCoord (ix2 b h) 1 = h.val
    rw [GatherDims.batchCoord_eq_zero _ _ _ List.not_mem_nil]
    unfold GatherDims.start
    rw [dif_neg (show (1 : Fin 2) ∉ ([0] : List (Fin 2)) by decide), Nat.zero_add]
    rfl

/-- A small word is not negative. -/
theorem not_negative (w : BitVec 32) (h : w.toNat < 2 ^ 31) : IntOp.cmpi CmpIPredicate.slt w 0#32 = 0#1 := by
  have h' : w.toInt = w.toNat := BitVec.toInt_eq_toNat_of_lt (by omega)
  have : w.slt 0#32 = false := by simp [BitVec.slt, h']
  simp [IntOp.cmpi, this]

/-- A small word is at least zero. -/
theorem at_least_zero (w : BitVec 32) (h : w.toNat < 2 ^ 31) : IntOp.cmpi CmpIPredicate.sge w 0#32 = 1#1 := by
  have h' : w.toInt = w.toNat := BitVec.toInt_eq_toNat_of_lt (by omega)
  have : (0#32).sle w = true := by simp [BitVec.sle, h']
  simp [IntOp.cmpi, this]

/-- A word below `n` is at most `n - 1`, as signed words. -/
theorem at_most (w n : BitVec 32) (h : w.toNat ≤ n.toNat) (hn : n.toNat < 2 ^ 31) : IntOp.cmpi CmpIPredicate.sle w n = 1#1 := by
  have h' : w.toInt = w.toNat := BitVec.toInt_eq_toNat_of_lt (by omega)
  have h'' : n.toInt = n.toNat := BitVec.toInt_eq_toNat_of_lt (by omega)
  have : w.sle n = true := by simp [BitVec.sle, h', h'']; exact h
  simp [IntOp.cmpi, this]

end Cert.Proof
-- ==== Proof.RefTake.lean ====
module

public import proofs.«01_k».proof.Proof.Gen.ReferenceIdeal.Run
public import proofs.«01_k».proof.Proof.Take

/-! The reference's three lookups of rows: with every number in the table, the rows they name. -/

@[expose] public section

set_option maxRecDepth 16384

noncomputable section

namespace Cert.Proof.Ref

open Idealize.ShloMosaic Cert.ReferenceIdeal Cert.ReferenceIdeal.Gen

/-- The word that a lookup uses for a number: numbers below zero count from the table's end. -/
def wrap {s : Shape} (z n idx : IVec s 32) : IVec s 32 := select (cmpi .slt idx z) (addi idx n) idx

/-- Numbers that are not negative are used as they are. -/
theorem wrap_eq {s : Shape} (z n idx : IVec s 32) (hz : ∀ i, z i = 0#32) (hi : ∀ i, (idx i).toNat < 2 ^ 31) : wrap z n idx = idx := by
  funext i
  show Scalar.select (IntOp.cmpi .slt (idx i) (z i)) (IntOp.addi (idx i) (n i)) (idx i) = idx i
  rw [hz, not_negative _ (hi i)]
  rfl

/-- The bit that a lookup keeps its row by: every number from `z` to `n`. -/
def within {s t u : Shape} {axes : List (Fin s.rank)} (z n idx : IVec s 32) (one : IVec u 1) (h : s.ReducesTo axes t) (hu : 0 < u.numel) : IVec t 1 :=
  Host.reduce IntOp.andi (andi (cmpi .sge idx z) (cmpi .sle idx n)) one h hu

/-- Numbers in the table pass. -/
theorem within_eq {s t u : Shape} {axes : List (Fin s.rank)} (z n idx : IVec s 32) (one : IVec u 1) (h : s.ReducesTo axes t) (hu : 0 < u.numel)
    (hz : ∀ i, z i = 0#32) (N : BitVec 32) (hN : N.toNat < 2 ^ 31) (hn : ∀ i, n i = N) (ho : ∀ i, one i = 1#1)
    (hi : ∀ i, (idx i).toNat ≤ N.toNat) (j : t.Idx) : within z n idx one h hu j = 1#1 := by
  refine Host.reduce_andi_one _ _ _ _ _ (ho _) fun i => ?_
  show IntOp.andi (IntOp.cmpi .sge (idx i) (z i)) (IntOp.cmpi .sle (idx i) (n i)) = 1#1
  rw [hz, hn, at_least_zero _ (lt_of_le_of_lt (hi i) hN), at_most _ _ (hi i) hN]
  rfl

/-- The lookup of the first place's rows. -/
def take1 (A : FVec Ideal S32x512 .f32) (idx : IVec S1024 32) : FVec Ideal S1024x512 .f32 :=
  select (broadcastInDim S1024x512 ![0] bcast_S1024_S1024x512_0 (within (broadcastInDim S1024x1 ![] bcast_S_S1024x1 (constantI S_ 32 0#32)) (broadcastInDim S1024x1 ![0, 1] bcast_S1x1_S1024x1_0_1 (broadcastInDim S1x1 ![1] bcast_S1_S1x1_1 (constantI S1 32 31#32)))
      (broadcastInDim S1024x1 ![0] bcast_S1024_S1024x1_0 (wrap (broadcastInDim S1024 ![] bcast_S_S1024 (constantI S_ 32 0#32)) (broadcastInDim S1024 ![] bcast_S_S1024 (constantI S_ 32 32#32)) idx)) (constantI S_ 1 1#1) reducesTo_S1024x1_S1024_d1 h_S_))
    (Host.gather gather_S32x512_S1024x1_S1024x512_1_0_n_n_0_1_1512 A (broadcastInDim S1024x1 ![0] bcast_S1024_S1024x1_0 (wrap (broadcastInDim S1024 ![] bcast_S_S1024 (constantI S_ 32 0#32)) (broadcastInDim S1024 ![] bcast_S_S1024 (constantI S_ 32 32#32)) idx)))
    (broadcastInDim S1024x512 ![] bcast_S_S1024x512 (constant S_ .f32 0x7FC00000#32))

/-- The lookup of the later even places' rows. -/
def take2 (A : FVec Ideal S32x512 .f32) (idx : IVec S1024x99 32) : FVec Ideal S1024x99x512 .f32 :=
  select (broadcastInDim S1024x99x512 ![0, 1] bcast_S1024x99_S1024x99x512_0_1 (within (broadcastInDim S1024x99x1 ![] bcast_S_S1024x99x1 (constantI S_ 32 0#32)) (broadcastInDim S1024x99x1 ![0, 1, 2] bcast_S1x1x1_S1024x99x1_0_1_2 (broadcastInDim S1x1x1 ![2] bcast_S1_S1x1x1_2 (constantI S1 32 31#32)))
      (broadcastInDim S1024x99x1 ![0, 1] bcast_S1024x99_S1024x99x1_0_1 (wrap (broadcastInDim S1024x99 ![] bcast_S_S1024x99 (constantI S_ 32 0#32)) (broadcastInDim S1024x99 ![] bcast_S_S1024x99 (constantI S_ 32 32#32)) idx)) (constantI S_ 1 1#1) reducesTo_S1024x99x1_S1024x99_d2 h_S_))
    (Host.gather gather_S32x512_S1024x99x1_S1024x99x512_2_0_n_n_0_2_1512 A (broadcastInDim S1024x99x1 ![0, 1] bcast_S1024x99_S1024x99x1_0_1 (wrap (broadcastInDim S1024x99 ![] bcast_S_S1024x99 (constantI S_ 32 0#32)) (broadcastInDim S1024x99 ![] bcast_S_S1024x99 (constantI S_ 32 32#32)) idx)))
    (broadcastInDim S1024x99x512 ![] bcast_S_S1024x99x512 (constant S_ .f32 0x7FC00000#32))

/-- The lookup of the odd places' rows. -/
def take3 (B : FVec Ideal S512x512 .f32) (idx : IVec S1024x100 32) : FVec Ideal S1024x100x512 .f32 :=
  select (broadcastInDim S1024x100x512 ![0, 1] bcast_S1024x100_S1024x100x512_0_1 (within (broadcastInDim S1024x100x1 ![] bcast_S_S1024x100x1 (constantI S_ 32 0#32)) (broadcastInDim S1024x100x1 ![0, 1, 2] bcast_S1x1x1_S1024x100x1_0_1_2 (broadcastInDim S1x1x1 ![2] bcast_S1_S1x1x1_2 (constantI S1 32 511#32)))
      (broadcastInDim S1024x100x1 ![0, 1] bcast_S1024x100_S1024x100x1_0_1 (wrap (broadcastInDim S1024x100 ![] bcast_S_S1024x100 (constantI S_ 32 0#32)) (broadcastInDim S1024x100 ![] bcast_S_S1024x100 (constantI S_ 32 512#32)) idx)) (constantI S_ 1 1#1) reducesTo_S1024x100x1_S1024x100_d2 h_S_))
    (Host.gather gather_S512x512_S1024x100x1_S1024x100x512_2_0_n_n_0_2_1512 B (broadcastInDim S1024x100x1 ![0, 1] bcast_S1024x100_S1024x100x1_0_1 (wrap (broadcastInDim S1024x100 ![] bcast_S_S1024x100 (constantI S_ 32 0#32)) (broadcastInDim S1024x100 ![] bcast_S_S1024x100 (constantI S_ 32 512#32)) idx)))
    (broadcastInDim S1024x100x512 ![] bcast_S_S1024x100x512 (constant S_ .f32 0x7FC00000#32))

/-- A selection by a bit that is set is its first choice. -/
theorem select_set {s : Shape} {α : Type} (c : IVec s 1) (x y : s.Idx → α) (i : s.Idx) (hc : c i = 1#1) : select c x y i = x i := by
  show Scalar.select (c i) (x i) (y i) = x i
  rw [hc]; rfl

/-- The first place's rows, read. -/
theorem take1_apply (A : FVec Ideal S32x512 .f32) (idx : IVec S1024 32) (hi : ∀ i, (idx i).toNat < 32) (b : Fin 1024) (h : Fin 512) :
    take1 A idx (ix2 b h) = A (ix2 ⟨(idx (ix1 b)).toNat, hi _⟩ h) := by
  unfold take1
  rw [wrap_eq (broadcastInDim S1024 ![] bcast_S_S1024 (constantI S_ 32 0#32)) _ _ (fun _ => rfl) fun i => lt_trans (hi i) (by norm_num)]
  refine (select_set _ _ _ _ ?_).trans ?_
  · exact within_eq _ _ _ _ _ _ (fun _ => rfl) 31#32 (by decide) (fun _ => rfl) (fun _ => rfl) (fun i => Nat.le_of_lt_succ (hi _)) _
  · have e : broadcastInDim S1024x1 ![0] bcast_S1024_S1024x1_0 idx (ix2 b 0) = idx (ix1 b) := by pointwise []
    refine (gather_rows2 _ A _ b h (by norm_num) (by rw [e]; exact hi _)).trans ?_
    simp only [e]

/-- The later even places' rows, read. -/
theorem take2_apply (A : FVec Ideal S32x512 .f32) (idx : IVec S1024x99 32) (hi : ∀ i, (idx i).toNat < 32) (b : Fin 1024) (j : Fin 99) (h : Fin 512) :
    take2 A idx (ix3 b j h) = A (ix2 ⟨(idx (ix2 b j)).toNat, hi _⟩ h) := by
  unfold take2
  rw [wrap_eq (broadcastInDim S1024x99 ![] bcast_S_S1024x99 (constantI S_ 32 0#32)) _ _ (fun _ => rfl) fun i => lt_trans (hi i) (by norm_num)]
  refine (select_set _ _ _ _ ?_).trans ?_
  · exact within_eq _ _ _ _ _ _ (fun _ => rfl) 31#32 (by decide) (fun _ => rfl) (fun _ => rfl) (fun i => Nat.le_of_lt_succ (hi _)) _
  · have e : broadcastInDim S1024x99x1 ![0, 1] bcast_S1024x99_S1024x99x1_0_1 idx (ix3 b j 0) = idx (ix2 b j) := by pointwise []
    refine (gather_rows3 _ A _ b j h (by norm_num) (by rw [e]; exact hi _)).trans ?_
    simp only [e]

/-- The odd places' rows, read. -/
theorem take3_apply (B : FVec Ideal S512x512 .f32) (idx : IVec S1024x100 32) (hi : ∀ i, (idx i).toNat < 32) (b : Fin 1024) (j : Fin 100) (h : Fin 512) :
    take3 B idx (ix3 b j h) = B (ix2 ⟨(idx (ix2 b j)).toNat, lt_trans (hi _) (by norm_num)⟩ h) := by
  unfold take3
  rw [wrap_eq (broadcastInDim S1024x100 ![] bcast_S_S1024x100 (constantI S_ 32 0#32)) _ _ (fun _ => rfl) fun i => lt_trans (hi i) (by norm_num)]
  refine (select_set _ _ _ _ ?_).trans ?_
  · exact within_eq _ _ _ _ _ _ (fun _ => rfl) 511#32 (by decide) (fun _ => rfl) (fun _ => rfl) (fun i => le_trans (Nat.le_of_lt (hi _)) (by decide)) _
  · have e : broadcastInDim S1024x100x1 ![0, 1] bcast_S1024x100_S1024x100x1_0_1 idx (ix3 b j 0) = idx (ix2 b j) := by pointwise []
    refine (gather_rows3 _ B _ b j h (by norm_num) (by rw [e]; exact lt_trans (hi _) (by norm_num))).trans ?_
    simp only [e]

end Cert.Proof.Ref

end
-- ==== Proof.RefValue.lean ====
module

public import proofs.«01_k».proof.Proof.RefTake
public import proofs.«01_k».proof.Proof.Host

/-! What the reference computes. -/

@[expose] public section

set_option maxRecDepth 16384

noncomputable section

namespace Cert.Proof.Ref

open Idealize.ShloMosaic Cert.ReferenceIdeal Cert.ReferenceIdeal.Gen

/-- The sinusoids of the numbers at the odd places. -/
def evenWaves (idx : IVec S1024x100 32) : FVec Ideal S1024x100x512 .f32 :=
  concatenate S1024x100x512 2 [⟨S1024x100x256, (Host.sin (Host.divf (broadcastInDim S1024x100x256 ![0, 1, 2] bcast_S1024x100x1_S1024x100x256_0_1_2 (broadcastInDim S1024x100x1 ![0, 1] bcast_S1024x100_S1024x100x1_0_1 (sitofp .f32 idx))) (broadcastInDim S1024x100x256 ![0, 1, 2] bcast_S1x1x256_S1024x100x256_0_1_2 (broadcastInDim S1x1x256 ![2] bcast_S256_S1x1x256_2 ((fun i => FloatOps.ofBits .f32 (lit0 (S256.rowMajor i))))))))⟩, ⟨S1024x100x256, (Host.cos (Host.divf (broadcastInDim S1024x100x256 ![0, 1, 2] bcast_S1024x100x1_S1024x100x256_0_1_2 (broadcastInDim S1024x100x1 ![0, 1] bcast_S1024x100_S1024x100x1_0_1 (sitofp .f32 idx))) (broadcastInDim S1024x100x256 ![0, 1, 2] bcast_S1x1x256_S1024x100x256_0_1_2 (broadcastInDim S1x1x256 ![2] bcast_S256_S1x1x256_2 ((fun i => FloatOps.ofBits .f32 (lit0 (S256.rowMajor i))))))))⟩] concatenates_S1024x100x256_S1024x100x256_S1024x100x512_d2

/-- The sinusoids of the positions. -/
def posWaves (P : FVec Ideal S1024x200 .f32) : FVec Ideal S1024x200x512 .f32 :=
  concatenate S1024x200x512 2 [⟨S1024x200x256, (Host.sin (Host.divf (broadcastInDim S1024x200x256 ![0, 1, 2] bcast_S1024x200x1_S1024x200x256_0_1_2 (broadcastInDim S1024x200x1 ![0, 1] bcast_S1024x200_S1024x200x1_0_1 P)) (broadcastInDim S1024x200x256 ![0, 1, 2] bcast_S1x1x256_S1024x200x256_0_1_2 (broadcastInDim S1x1x256 ![2] bcast_S256_S1x1x256_2 ((fun i => FloatOps.ofBits .f32 (lit1 (S256.rowMajor i))))))))⟩, ⟨S1024x200x256, (Host.cos (Host.divf (broadcastInDim S1024x200x256 ![0, 1, 2] bcast_S1024x200x1_S1024x200x256_0_1_2 (broadcastInDim S1024x200x1 ![0, 1] bcast_S1024x200_S1024x200x1_0_1 P)) (broadcastInDim S1024x200x256 ![0, 1, 2] bcast_S1x1x256_S1024x200x256_0_1_2 (broadcastInDim S1x1x256 ![2] bcast_S256_S1x1x256_2 ((fun i => FloatOps.ofBits .f32 (lit1 (S256.rowMajor i))))))))⟩] concatenates_S1024x200x256_S1024x200x256_S1024x200x512_d2

/-- The numbers at place 0. -/
def first (T : IVec S1024x200 32) : IVec S1024 32 :=
  shapeCast _ (extractStridedSlice S1024x1 ![0, 0] T slices_S1024x200_S1024x1_0_0) shapeCasts_S1024x1_S1024
/-- The numbers at the later even places. -/
def evens (T : IVec S1024x200 32) : IVec S1024x99 32 := Host.slice S1024x99 ![0, 2] ![1, 2] T slicesBy_S1024x200_S1024x99_0s1_2s2
/-- The numbers at the odd places. -/
def odds (T : IVec S1024x200 32) : IVec S1024x100 32 := Host.slice S1024x100 ![0, 1] ![1, 2] T slicesBy_S1024x200_S1024x100_0s1_1s2

/-- The even places' embeddings, from the first place's rows, the later rows and the sinusoids added to these. -/
def evenRows (t1 : FVec Ideal S1024x512 .f32) (t2 : FVec Ideal S1024x99x512 .f32) (w : FVec Ideal S1024x100x512 .f32) : FVec Ideal S1024x100x512 .f32 :=
  concatenate S1024x100x512 1 [⟨S1024x1x512, (broadcastInDim S1024x1x512 ![0, 2] bcast_S1024x512_S1024x1x512_0_2 t1)⟩, ⟨S1024x99x512, (addf t2 (extractStridedSlice S1024x99x512 ![0, 0, 0] w slices_S1024x100x512_S1024x99x512_0_0_0))⟩] concatenates_S1024x1x512_S1024x99x512_S1024x100x512_d1

/-- The even places' embeddings and the odd places', interleaved. -/
def interleave (e o : FVec Ideal S1024x100x512 .f32) : FVec Ideal S1024x200x512 .f32 :=
  shapeCast _ (concatenate S1024x100x2x512 2 [⟨S1024x100x1x512, (broadcastInDim S1024x100x1x512 ![0, 1, 3] bcast_S1024x100x512_S1024x100x1x512_0_1_3 e)⟩, ⟨S1024x100x1x512, (broadcastInDim S1024x100x1x512 ![0, 1, 3] bcast_S1024x100x512_S1024x100x1x512_0_1_3 o)⟩] concatenates_S1024x100x1x512_S1024x100x1x512_S1024x100x2x512_d2) shapeCasts_S1024x100x2x512_S1024x200x512

/-- The reference's operations on its four arguments. -/
def answer (T : IVec S1024x200 32) (P : FVec Ideal S1024x200 .f32) (A : FVec Ideal S32x512 .f32) (B : FVec Ideal S512x512 .f32) : FVec Ideal S1024x200x512 .f32 :=
  addf (interleave (evenRows (take1 A (first T)) (take2 A (evens T)) (evenWaves (odds T))) (take3 B (odds T))) (posWaves P)

/-- The reference's result, from its arguments. -/
theorem res_eq (m : (ℓ : Loc nD τ sig) → Buf (Elt Ideal) ℓ) (c : Dev nD) :
    Cert.ReferenceIdeal.Value.res_main_v32 m c = answer (m ((c.tc : Thread nD τ).loc main_arg0)) (m ((c.tc : Thread nD τ).loc main_arg1))
      (m ((c.tc : Thread nD τ).loc main_arg2)) (m ((c.tc : Thread nD τ).loc main_arg3)) := by
  unfold Cert.ReferenceIdeal.Value.res_main_v32 answer posWaves interleave evenRows take1 take2 take3 wrap within evenWaves first odds evens
  rfl

/-- The reference's table of periods is the kernel's. -/
theorem lit0_eq : lit0 = Cert.KernelIdeal.lit0 := rfl

/-- The reference's table of periods is the kernel's. -/
theorem lit1_eq : lit1 = Cert.KernelIdeal.lit0 := rfl

/-- A sinusoid of the positions. -/
theorem posWaves_apply (P : FVec Ideal S1024x200 .f32) (b : Fin 1024) (l : Fin 200) (h : Fin 512) : posWaves P (ix3 b l h) = wave (P (ix2 b l)) h := by
  pointwise [posWaves]
  unfold wave period
  rw [lit1_eq]
  split
  · rw [rowMajor_one]
  · rw [rowMajor_one]

/-- A sinusoid of the numbers. -/
theorem evenWaves_apply (I : IVec S1024x100 32) (b : Fin 1024) (j : Fin 100) (h : Fin 512) :
    evenWaves I (ix3 b j h) = wave (FloatOps.sitofp .f32 (I (ix2 b j)) : Ideal .f32) h := by
  pointwise [evenWaves]
  unfold wave period
  rw [lit0_eq]
  split
  · rw [rowMajor_one]
  · rw [rowMajor_one]

/-- The interleaved embeddings, read. -/
theorem interleave_apply (e o : FVec Ideal S1024x100x512 .f32) (b : Fin 1024) (l : Fin 200) (h : Fin 512) :
    interleave e o (ix3 b l h) = if l.val % 2 = 1 then o (ix3 b ⟨l.val / 2, by omega⟩ h) else e (ix3 b ⟨l.val / 2, by omega⟩ h) := by
  pointwise [interleave]
  by_cases hl : l.val % 2 = 1
  · rw [dif_neg (by omega), if_pos hl]
  · rw [dif_pos (by omega), if_neg hl]

/-- The even places' embeddings, read. -/
theorem evenRows_apply (t1 : FVec Ideal S1024x512 .f32) (t2 : FVec Ideal S1024x99x512 .f32) (w : FVec Ideal S1024x100x512 .f32)
    (b : Fin 1024) (j : Fin 100) (h : Fin 512) : evenRows t1 t2 w (ix3 b j h)
      = if hj : j.val = 0 then t1 (ix2 b h) else t2 (ix3 b ⟨j.val - 1, by omega⟩ h) + w (ix3 b ⟨j.val - 1, by omega⟩ h) := by
  pointwise [evenRows]
  by_cases hj : j.val = 0
  · rw [dif_pos (by omega), dif_pos hj]
  · rw [dif_neg (by omega), dif_neg hj]

/-- The numbers at place 0, read. -/
theorem first_apply (T : IVec S1024x200 32) (b : Fin 1024) : first T (ix1 b) = T (ix2 b 0) := by
  pointwise [first]

/-- The numbers at the later even places, read. -/
theorem evens_apply (T : IVec S1024x200 32) (b : Fin 1024) (j : Fin 99) : evens T (ix2 b j) = T (ix2 b ⟨2 + 2 * j.val, by omega⟩) := by
  pointwise [evens]

/-- The numbers at the odd places, read. -/
theorem odds_apply (T : IVec S1024x200 32) (b : Fin 1024) (j : Fin 100) : odds T (ix2 b j) = T (ix2 b ⟨1 + 2 * j.val, by omega⟩) := by
  pointwise [odds]

/-- A number in the table, as a real. -/
theorem real_of_word (w : BitVec 32) (h : w.toNat < 32) : (FloatOps.sitofp FTy.f32 w : Ideal .f32) = ((w.toNat : ℝ) : EReal) := by
  show ((w.toInt : ℝ) : EReal) = _
  rw [BitVec.toInt_eq_toNat_of_lt (by omega)]
  rfl

/-- The reference's operations compute the embedding of the tokens and the sinusoid of the positions. -/
theorem answer_value (T : IVec S1024x200 32) (P : FVec Ideal S1024x200 .f32) (A : FVec Ideal S32x512 .f32) (B : FVec Ideal S512x512 .f32) (hT : InTable T) :
    answer T P A B = fun y : S1024x200x512.Idx => result T hT P A B (y 0) (y 1) (y 2) := by
  have hf : ∀ i, (first T i).toNat < 32 := fun i => by
    obtain ⟨b, rfl⟩ : ∃ b : Fin 1024, i = ix1 b := ⟨i 0, eq_ix1 i⟩
    rw [first_apply]; exact hT _ _
  have he : ∀ i, (evens T i).toNat < 32 := fun i => by
    obtain ⟨b, j, rfl⟩ : ∃ (b : Fin 1024) (j : Fin 99), i = ix2 b j := ⟨i 0, i 1, eq_ix2 i⟩
    rw [evens_apply]; exact hT _ _
  have ho : ∀ i, (odds T i).toNat < 32 := fun i => by
    obtain ⟨b, j, rfl⟩ : ∃ (b : Fin 1024) (j : Fin 100), i = ix2 b j := ⟨i 0, i 1, eq_ix2 i⟩
    rw [odds_apply]; exact hT _ _
  funext y
  obtain ⟨b, l, h, rfl⟩ : ∃ (b : Fin 1024) (l : Fin 200) (h : Fin 512), y = ix3 b l h := ⟨y 0, y 1, y 2, eq_ix3 y⟩
  show interleave _ _ (ix3 b l h) + posWaves P (ix3 b l h) = embed T hT A B b l h + wave (P (ix2 b l)) h
  rw [posWaves_apply, interleave_apply]
  refine congrArg (· + _) ?_
  unfold embed
  by_cases hl : l.val % 2 = 1
  · rw [if_pos hl, if_pos hl, take3_apply _ _ ho]
    have e : (⟨1 + 2 * (l.val / 2), by omega⟩ : Fin 200) = l := Fin.ext (by show 1 + 2 * (l.val / 2) = l.val; omega)
    simp only [odds_apply, e]
  · rw [if_neg hl, if_neg hl, evenRows_apply]
    by_cases h0 : l.val = 0
    · obtain rfl : l = 0 := Fin.ext h0
      rw [dif_pos (by rfl), if_pos (by rfl), take1_apply _ _ hf]
      simp only [first_apply]
    · rw [dif_neg (by show ¬ l.val / 2 = 0; omega), if_neg h0, take2_apply _ _ he, evenWaves_apply, real_of_word _ (ho _)]
      have e : (⟨2 + 2 * (l.val / 2 - 1), by omega⟩ : Fin 200) = l := Fin.ext (by show 2 + 2 * (l.val / 2 - 1) = l.val; omega)
      have e' : (⟨1 + 2 * (l.val / 2 - 1), by omega⟩ : Fin 200) = ⟨l.val - 1, by omega⟩ := Fin.ext (by show 1 + 2 * (l.val / 2 - 1) = l.val - 1; omega)
      simp only [evens_apply, odds_apply, e, e']

/-- The reference's result: the embedding of the tokens and the sinusoid of the positions. -/
theorem res_value (m : (ℓ : Loc nD τ sig) → Buf (Elt Ideal) ℓ) (c : Dev nD) (hT : InTable (m ((c.tc : Thread nD τ).loc main_arg0))) :
    Cert.ReferenceIdeal.Value.res_main_v32 m c = fun y : S1024x200x512.Idx => result (m ((c.tc : Thread nD τ).loc main_arg0)) hT
      (m ((c.tc : Thread nD τ).loc main_arg1)) (m ((c.tc : Thread nD τ).loc main_arg2)) (m ((c.tc : Thread nD τ).loc main_arg3)) (y 0) (y 1) (y 2) :=
  (res_eq m c).trans (answer_value _ _ _ _ hT)

end Cert.Proof.Ref

end
-- ==== Proof.Pre.lean ====
module

public import proofs.«01_k».proof.Pre_tokens_in_table
public import proofs.«01_k».proof.Proof.Spec
public import Idealize.ShloMosaic.Lib.ReduceAll
public import Idealize.ShloMosaic.Lib.Pointwise

/-! What the precondition on the tokens says. -/

@[expose] public section

noncomputable section

namespace Cert.Proof

open Idealize.ShloMosaic

/-- The shape relations that the precondition's operations take. -/
theorem pre_facts : Cert.Pre_tokens_in_table.Facts where
  bcast_S_S1024x200 := by decide
  reducesTo_S1024x200_S_d0_1 := by decide
  h_S_ := by decide

/-- A word that is at least 0 and below 32, read with its sign, is below 32 read without it. -/
theorem word_lt (w : BitVec 32) (h0 : IntOp.cmpi .sge w 0#32 = 1#1) (h1 : IntOp.cmpi .slt w 32#32 = 1#1) : w.toNat < 32 := by
  rw [IntOp.cmpi_sge] at h0
  rw [IntOp.cmpi_slt] at h1
  have e0 : (0#32 : BitVec 32).toInt = 0 := by decide
  have e1 : (32#32 : BitVec 32).toInt = 32 := by decide
  rw [e0] at h0
  rw [e1] at h1
  rw [BitVec.toInt_eq_toNat_cond] at h0 h1
  have := w.isLt
  split at h0 <;> omega

/-- Where the precondition holds, every token is in the table. -/
theorem tokens_in [Cert.Pre_tokens_in_table.Facts] (T : IVec STok 32) (P : FVec Ideal STok .f32) (A : FVec Ideal STab .f32)
    (B : FVec Ideal SIdx .f32) (h : Cert.Pre_tokens_in_table.fn (F := Ideal) T P A B = fun _ => 1#1) : InTable T := by
  have hs : Subsingleton Cert.Pre_tokens_in_table.S_.Idx := ⟨fun a b => funext fun k => Fin.elim0 k⟩
  intro b l
  have e := congrFun h (fun k => Fin.elim0 k)
  have e1 := Host.reduce_andi_all _ _ _ _ _ e (ix2 b l)
  obtain ⟨e2, e3⟩ := IntOp.andi_eq_one.1 e1
  exact word_lt _ e2 e3

end Cert.Proof

end
-- ==== Proof.Taylor.lean ====
module

public import Mathlib.Analysis.Complex.Exponential
public import Mathlib.Analysis.SpecialFunctions.Trigonometric.Basic
public import Mathlib.Tactic.Linarith
public import Mathlib.Tactic.NormNum

/-! The sine and the cosine against the partial sums of their series, the kernel's two polynomials against the sine
and the cosine, and decimals of pi. -/

@[expose] public section

noncomputable section

namespace Cert.Proof

/-- The first `n` terms of the sine's series. -/
def sinSum (n : ℕ) (x : ℝ) : ℝ := ∑ k ∈ Finset.range n, (-1) ^ k * (x ^ (2 * k + 1) / (2 * k + 1).factorial)

/-- The first `n` terms of the cosine's series. -/
def cosSum (n : ℕ) (x : ℝ) : ℝ := ∑ k ∈ Finset.range n, (-1) ^ k * (x ^ (2 * k) / (2 * k).factorial)

/-- The first `2 n` terms of the exponential's series at an imaginary number. -/
theorem expSum (n : ℕ) (x : ℝ) : ∑ k ∈ Finset.range (2 * n), ((x : ℂ) * Complex.I) ^ k / k.factorial
    = (cosSum n x : ℂ) + (sinSum n x : ℂ) * Complex.I := by
  induction n with
  | zero => simp [cosSum, sinSum]
  | succ n ih =>
    have hI : Complex.I ^ (2 * n) = (-1) ^ n := by rw [pow_mul, Complex.I_sq]
    rw [show 2 * (n + 1) = 2 * n + 1 + 1 by ring, Finset.sum_range_succ, Finset.sum_range_succ, ih]
    unfold cosSum sinSum
    rw [Finset.sum_range_succ _ n, Finset.sum_range_succ _ n, mul_pow, mul_pow, pow_succ Complex.I, hI]
    push_cast
    ring

/-- What the first `2 n` terms leave of the exponential at an imaginary number. -/
theorem exp_left (n : ℕ) (x : ℝ) (hx : |x| ≤ n) :
    ‖((Real.cos x - cosSum n x : ℝ) : ℂ) + ((Real.sin x - sinSum n x : ℝ) : ℂ) * Complex.I‖ ≤ |x| ^ (2 * n) / (2 * n).factorial * 2 := by
  have hn : ‖(x : ℂ) * Complex.I‖ = |x| := by simp
  have h := Complex.exp_bound' (x := (x : ℂ) * Complex.I) (n := 2 * n) (by
    rw [hn, div_le_iff₀ (by positivity)]; push_cast; linarith)
  rw [hn, expSum, Complex.exp_mul_I] at h
  refine le_of_eq_of_le (congrArg _ ?_) h
  push_cast
  ring

/-- The cosine and the sum of its first `n` terms. -/
theorem cos_left (n : ℕ) (x : ℝ) (hx : |x| ≤ n) : |Real.cos x - cosSum n x| ≤ |x| ^ (2 * n) / (2 * n).factorial * 2 := by
  refine le_trans ?_ (exp_left n x hx)
  refine le_of_eq_of_le (congrArg _ ?_) (Complex.abs_re_le_norm _)
  rw [Complex.add_re, Complex.re_ofReal_mul, Complex.I_re, Complex.ofReal_re]; ring

/-- The sine and the sum of its first `n` terms. -/
theorem sin_left (n : ℕ) (x : ℝ) (hx : |x| ≤ n) : |Real.sin x - sinSum n x| ≤ |x| ^ (2 * n) / (2 * n).factorial * 2 := by
  refine le_trans ?_ (exp_left n x hx)
  refine le_of_eq_of_le (congrArg _ ?_) (Complex.abs_im_le_norm _)
  rw [Complex.add_im, Complex.im_ofReal_mul, Complex.I_im, Complex.ofReal_im]; ring

/-- The kernel's polynomial for the sine. -/
def sinPoly (r : ℝ) : ℝ := (4219303 / 536870912 * (r * r) + -(11175089 / 67108864)) * (r * r) * r + r

/-- The kernel's polynomial for the cosine. -/
def cosPoly (r : ℝ) : ℝ :=
  ((-(2791643 / 2147483648) * (r * r) + 11162951 / 268435456) * (r * r) + -(16776843 / 33554432)) * (r * r) + 1

/-- The products of powers of two numbers that are not negative are not negative. -/
theorem basis_nonneg {s t : ℝ} (hs : 0 ≤ s) (ht : 0 ≤ t) (i j : ℕ) : 0 ≤ s ^ i * t ^ j := mul_nonneg (pow_nonneg hs i) (pow_nonneg ht j)

/-- The polynomial for the sine and the sum of the sine's first six terms, up to a little above half of pi. -/
theorem sinPoly_sum (x : ℝ) (h0 : 0 ≤ x) (h1 : x ≤ 11 / 7) : |sinPoly x - sinSum 6 x| ≤ 5551 / 10000000 := by
  have ht : 0 ≤ 11 / 7 - x := by linarith
  have h := basis_nonneg h0 ht
  have e : sinSum 6 x = x - x ^ 3 / 6 + x ^ 5 / 120 - x ^ 7 / 5040 + x ^ 9 / 362880 - x ^ 11 / 39916800 := by
    simp [sinSum, Finset.sum_range_succ, Nat.factorial]; ring
  rw [e, abs_le]
  unfold sinPoly
  constructor
  · linarith [h 0 11, h 1 10, h 2 9, h 3 8, h 4 7, h 5 6, h 6 5, h 7 4, h 8 3, h 9 2, h 10 1, h 11 0]
  · linarith [h 0 11, h 1 10, h 2 9, h 3 8, h 4 7, h 5 6, h 6 5, h 7 4, h 8 3, h 9 2, h 10 1, h 11 0]

/-- The polynomial for the cosine and the sum of the cosine's first six terms, up to a little above half of pi. -/
theorem cosPoly_sum (x : ℝ) (h0 : 0 ≤ x) (h1 : x ≤ 11 / 7) : |cosPoly x - cosSum 6 x| ≤ 1 / 10000 := by
  have ht : 0 ≤ 11 / 7 - x := by linarith
  have h := basis_nonneg h0 ht
  have e : cosSum 6 x = 1 - x ^ 2 / 2 + x ^ 4 / 24 - x ^ 6 / 720 + x ^ 8 / 40320 - x ^ 10 / 3628800 := by
    simp [cosSum, Finset.sum_range_succ, Nat.factorial]; ring
  rw [e, abs_le]
  unfold cosPoly
  constructor
  · linarith [h 0 10, h 1 9, h 2 8, h 3 7, h 4 6, h 5 5, h 6 4, h 7 3, h 8 2, h 9 1, h 10 0]
  · linarith [h 0 10, h 1 9, h 2 8, h 3 7, h 4 6, h 5 5, h 6 4, h 7 3, h 8 2, h 9 1, h 10 0]

/-- What the six terms leave up to a little above half of pi. -/
theorem left_six (x : ℝ) (hx : |x| ≤ 11 / 7) : |x| ^ (2 * 6) / (2 * 6).factorial * 2 ≤ 1 / 1000000 := by
  have h : |x| ^ 12 ≤ (11 / 7) ^ 12 := pow_le_pow_left₀ (abs_nonneg x) hx 12
  have e : ((2 * 6).factorial : ℝ) = 479001600 := by norm_num [Nat.factorial]
  rw [e]
  have : ((11 : ℝ) / 7) ^ 12 ≤ 228 := by norm_num
  show |x| ^ 12 / 479001600 * 2 ≤ _
  linarith

/-- The polynomial for the sine is near the sine up to a little above half of pi, on both sides of zero. -/
theorem sinPoly_near (x : ℝ) (hx : |x| ≤ 11 / 7) : |sinPoly x - Real.sin x| ≤ 557 / 1000000 := by
  have key : ∀ y : ℝ, 0 ≤ y → y ≤ 11 / 7 → |sinPoly y - Real.sin y| ≤ 557 / 1000000 := fun y h0 h1 => by
    have ha : |y| ≤ 11 / 7 := by rwa [abs_of_nonneg h0]
    have h2 := sin_left 6 y (ha.trans (by norm_num))
    have h3 := left_six y ha
    have h4 := sinPoly_sum y h0 h1
    rw [abs_le] at h2 h4 ⊢
    constructor <;> linarith [h2.1, h2.2, h4.1, h4.2]
  rcases le_total 0 x with h | h
  · exact key x h ((le_abs_self x).trans hx)
  · have := key (-x) (by linarith) ((neg_le_abs x).trans hx)
    rw [Real.sin_neg, show sinPoly (-x) = -sinPoly x by unfold sinPoly; ring] at this
    rwa [← abs_neg, neg_sub, show Real.sin x - sinPoly x = -sinPoly x - -Real.sin x by ring]

/-- The polynomial for the cosine is near the cosine up to a little above half of pi, on both sides of zero. -/
theorem cosPoly_near (x : ℝ) (hx : |x| ≤ 11 / 7) : |cosPoly x - Real.cos x| ≤ 557 / 1000000 := by
  have key : ∀ y : ℝ, 0 ≤ y → y ≤ 11 / 7 → |cosPoly y - Real.cos y| ≤ 557 / 1000000 := fun y h0 h1 => by
    have ha : |y| ≤ 11 / 7 := by rwa [abs_of_nonneg h0]
    have h2 := cos_left 6 y (ha.trans (by norm_num))
    have h3 := left_six y ha
    have h4 := cosPoly_sum y h0 h1
    rw [abs_le] at h2 h4 ⊢
    constructor <;> linarith [h2.1, h2.2, h4.1, h4.2]
  rcases le_total 0 x with h | h
  · exact key x h ((le_abs_self x).trans hx)
  · have := key (-x) (by linarith) ((neg_le_abs x).trans hx)
    rwa [Real.cos_neg, show cosPoly (-x) = cosPoly x by unfold cosPoly; ring] at this

/-- What twelve terms leave below 1.6. -/
theorem left_twelve (x : ℝ) (hx : |x| ≤ 8 / 5) : |x| ^ (2 * 12) / (2 * 12).factorial * 2 ≤ 1 / 10 ^ 17 := by
  have h : |x| ^ 24 ≤ (8 / 5) ^ 24 := pow_le_pow_left₀ (abs_nonneg x) hx 24
  have e : ((2 * 12).factorial : ℝ) = 620448401733239439360000 := by norm_num [Nat.factorial]
  rw [e]
  show |x| ^ 24 / 620448401733239439360000 * 2 ≤ _
  norm_num at h ⊢
  linarith

/-- Pi is above 3.1415926535897. -/
theorem pi_above : (31415926535897 / 10000000000000 : ℝ) < Real.pi := by
  by_contra hc
  have hx : |(31415926535897 / 20000000000000 : ℝ)| ≤ 8 / 5 := by rw [abs_of_pos (by norm_num)]; norm_num
  have h1 := Real.cos_nonpos_of_pi_div_two_le_of_le (x := 31415926535897 / 20000000000000) (by linarith) (by linarith [Real.two_le_pi])
  have h2 := (abs_le.mp ((cos_left 12 _ (hx.trans (by norm_num))).trans (left_twelve _ hx))).1
  have h3 : (1 / 10 ^ 15 : ℝ) ≤ cosSum 12 (31415926535897 / 20000000000000) := by
    simp [cosSum, Finset.sum_range_succ, Nat.factorial]; norm_num
  norm_num at h2 h3
  linarith

/-- Pi is below 3.1415926535898. -/
theorem pi_below : Real.pi < (31415926535898 / 10000000000000 : ℝ) := by
  by_contra hc
  have hx : |(31415926535898 / 20000000000000 : ℝ)| ≤ 8 / 5 := by rw [abs_of_pos (by norm_num)]; norm_num
  have h1 := Real.cos_nonneg_of_mem_Icc (x := 31415926535898 / 20000000000000) ⟨by linarith [Real.two_le_pi], by linarith⟩
  have h2 := (abs_le.mp ((cos_left 12 _ (hx.trans (by norm_num))).trans (left_twelve _ hx))).2
  have h3 : cosSum 12 (31415926535898 / 20000000000000) ≤ (-1 / 10 ^ 15 : ℝ) := by
    simp [cosSum, Finset.sum_range_succ, Nat.factorial]; norm_num
  norm_num at h2 h3
  linarith

end Cert.Proof

end
-- ==== Proof.Near.lean ====
module

public import proofs.«01_k».proof.Proof.Taylor
public import Idealize.ShloMosaic.PureOps.Ideal

/-! How near the kernel's polynomials after the range reductions, with the rounded constants, are to the sine and the
cosine. -/

@[expose] public section

noncomputable section

namespace Cert.Proof

open Idealize.ShloMosaic

/-- The float nearest to `1 / pi`. -/
def invPi : ℝ := 10680707 / 33554432
/-- The float nearest to pi. -/
def piF : ℝ := 13176795 / 4194304
/-- The float nearest to `1 / (256 pi)`. -/
def invMod : ℝ := 10680707 / 8589934592
/-- The first part of `256 pi`. -/
def mod1 : ℝ := 3217 / 4
/-- The second part of `256 pi`. -/
def mod2 : ℝ := -(4897725 / 2147483648)

/-- The power of minus one is one in size. -/
theorem abs_turn (n : ℤ) : |(-1 : ℝ) ^ n| = 1 := by
  rcases Int.even_or_odd n with h | h
  · rw [h.neg_one_zpow, abs_one]
  · rw [h.neg_one_zpow, abs_neg, abs_one]

/-- Rounding moves a number by at most a half. -/
theorem round_near (x : ℝ) : |x - (Ideal.roundHalfEven x : ℝ)| ≤ 1 / 2 := by
  have h0 := Int.floor_le x
  have h1 := Int.lt_floor_add_one x
  unfold Ideal.roundHalfEven
  simp only
  split_ifs <;> rw [abs_le] <;> push_cast <;> constructor <;> linarith

/-- A small number's sine is not much larger than it. -/
theorem sin_small (d : ℝ) (hd : |d| ≤ 1 / 1000) : |Real.sin d| ≤ 1001 / 1000 * |d| := by
  have h := sin_left 1 d (hd.trans (by norm_num))
  have e : sinSum 1 d = d := by simp [sinSum]
  have e' : |d| ^ (2 * 1) / (2 * 1).factorial * 2 = |d| * |d| := by simp [Nat.factorial]; ring
  rw [e, e'] at h
  have h2 : |d| * |d| ≤ 1 / 1000 * |d| := mul_le_mul_of_nonneg_right hd (abs_nonneg d)
  have h3 := abs_add_le (Real.sin d - d) d
  rw [sub_add_cancel] at h3
  linarith

/-- The sines of two near numbers are near. -/
theorem sin_near (a b ε : ℝ) (h : |a - b| ≤ ε) (hε : ε ≤ 1 / 1000) : |Real.sin a - Real.sin b| ≤ 1001 / 1000 * ε := by
  have hd : |(a - b) / 2| = |a - b| / 2 := by rw [abs_div, abs_two]
  have h1 := sin_small ((a - b) / 2) (by rw [hd]; linarith)
  have h2 := mul_le_mul h1 (Real.abs_cos_le_one ((a + b) / 2)) (abs_nonneg _) (by positivity)
  rw [Real.sin_sub_sin, mul_assoc, abs_mul, abs_mul, abs_two]
  rw [hd] at h2
  linarith

/-- The cosines of two near numbers are near. -/
theorem cos_near (a b ε : ℝ) (h : |a - b| ≤ ε) (hε : ε ≤ 1 / 1000) : |Real.cos a - Real.cos b| ≤ 1001 / 1000 * ε := by
  have hd : |(a - b) / 2| = |a - b| / 2 := by rw [abs_div, abs_two]
  have h1 := sin_small ((a - b) / 2) (by rw [hd]; linarith)
  have h2 := mul_le_mul (Real.abs_sin_le_one ((a + b) / 2)) h1 (abs_nonneg _) (by norm_num)
  rw [Real.cos_sub_cos, mul_assoc, abs_mul, abs_mul, abs_neg, abs_two]
  rw [hd] at h2
  linarith

/-- The whole multiple of pi taken off a number of moderate size is not large. -/
theorem turns_bound (y : ℝ) (hy : |y| ≤ 404) : |(Ideal.roundHalfEven (y * invPi) : ℝ)| ≤ 130 := by
  have h := abs_le.mp (round_near (y * invPi))
  have hy' := abs_le.mp hy
  unfold invPi at h ⊢
  rw [abs_le]
  constructor <;> linarith [h.1, h.2, hy'.1, hy'.2]

/-- What the reduction modulo pi leaves is at most a little above half of pi. -/
theorem reduced_bound (y : ℝ) (hy : |y| ≤ 404) : |y - Ideal.roundHalfEven (y * invPi) * piF| ≤ 11 / 7 := by
  have h := abs_le.mp (round_near (y * invPi))
  have hm := abs_le.mp (turns_bound y hy)
  generalize (Ideal.roundHalfEven (y * invPi) : ℝ) = n at h hm ⊢
  unfold invPi at h
  unfold piF
  rw [abs_le]
  constructor <;> linarith [h.1, h.2, hm.1, hm.2]

/-- The whole multiple of pi and that of its float differ little. -/
theorem reduced_near (y : ℝ) (hy : |y| ≤ 404) :
    |y - Ideal.roundHalfEven (y * invPi) * piF - (y - Ideal.roundHalfEven (y * invPi) * Real.pi)| ≤ 13 / 1000000 := by
  have hm := turns_bound y hy
  have hp : |Real.pi - piF| ≤ 1 / 10000000 := by
    unfold piF; rw [abs_le]; constructor <;> linarith [pi_above, pi_below]
  have h := mul_le_mul hm hp (abs_nonneg _) (by norm_num)
  rw [← abs_mul] at h
  refine le_of_eq_of_le (congrArg _ (by ring)) (h.trans (by norm_num))

/-- The reduction modulo pi, the polynomial and the parity's sign give the sine within the tolerance. -/
theorem sin_reduced_near (y : ℝ) (hy : |y| ≤ 404) :
    |sinPoly (y - Ideal.roundHalfEven (y * invPi) * piF) * (-1) ^ Ideal.roundHalfEven (y * invPi) - Real.sin y| ≤ 571 / 1000000 := by
  have h1 := sinPoly_near _ (reduced_bound y hy)
  have h2 := sin_near _ _ _ (reduced_near y hy) (by norm_num)
  generalize Ideal.roundHalfEven (y * invPi) = n at h1 h2 ⊢
  have e : Real.sin y = Real.sin (y - n * Real.pi) * (-1) ^ n := by
    rw [Real.sin_sub_int_mul_pi, mul_comm, ← mul_assoc, ← mul_zpow]; norm_num
  rw [e, ← sub_mul, abs_mul, abs_turn, mul_one]
  have h3 := abs_add_le (sinPoly (y - n * piF) - Real.sin (y - n * piF)) (Real.sin (y - n * piF) - Real.sin (y - n * Real.pi))
  rw [sub_add_sub_cancel] at h3
  linarith

/-- The reduction modulo pi, the polynomial and the parity's sign give the cosine within the tolerance. -/
theorem cos_reduced_near (y : ℝ) (hy : |y| ≤ 404) :
    |cosPoly (y - Ideal.roundHalfEven (y * invPi) * piF) * (-1) ^ Ideal.roundHalfEven (y * invPi) - Real.cos y| ≤ 571 / 1000000 := by
  have h1 := cosPoly_near _ (reduced_bound y hy)
  have h2 := cos_near _ _ _ (reduced_near y hy) (by norm_num)
  generalize Ideal.roundHalfEven (y * invPi) = n at h1 h2 ⊢
  have e : Real.cos y = Real.cos (y - n * Real.pi) * (-1) ^ n := by
    rw [Real.cos_sub_int_mul_pi, mul_comm, ← mul_assoc, ← mul_zpow]; norm_num
  rw [e, ← sub_mul, abs_mul, abs_turn, mul_one]
  have h3 := abs_add_le (cosPoly (y - n * piF) - Real.cos (y - n * piF)) (Real.cos (y - n * piF) - Real.cos (y - n * Real.pi))
  rw [sub_add_sub_cancel] at h3
  linarith

/-- A number less the whole multiple of the two parts of `256 pi`. -/
def moved (x : ℝ) : ℝ := x - Ideal.roundHalfEven (x * invMod) * mod1 - Ideal.roundHalfEven (x * invMod) * mod2

/-- The whole multiple of `256 pi` taken off a number is bounded. -/
theorem moves_bound (x : ℝ) (hx : |x| ≤ 580000) : |(Ideal.roundHalfEven (x * invMod) : ℝ)| ≤ 722 := by
  have h := abs_le.mp (round_near (x * invMod))
  have hx' := abs_le.mp hx
  unfold invMod at h ⊢
  rw [abs_le]
  constructor <;> linarith [h.1, h.2, hx'.1, hx'.2]

/-- What the reduction modulo `256 pi` leaves is of moderate size. -/
theorem moved_bound (x : ℝ) (hx : |x| ≤ 580000) : |moved x| ≤ 404 := by
  have h := abs_le.mp (round_near (x * invMod))
  have hm := abs_le.mp (moves_bound x hx)
  unfold moved
  generalize (Ideal.roundHalfEven (x * invMod) : ℝ) = n at h hm ⊢
  unfold invMod at h
  unfold mod1 mod2
  rw [abs_le]
  constructor <;> linarith [h.1, h.2, hm.1, hm.2]

/-- The reduction modulo `256 pi` takes off nearly a whole number of periods. -/
theorem moved_near (x : ℝ) (hx : |x| ≤ 580000) :
    |moved x - (x - (Ideal.roundHalfEven (x * invMod) * 128 : ℤ) * (2 * Real.pi))| ≤ 1 / 1000000 := by
  have hm := moves_bound x hx
  have hp : |256 * Real.pi - mod1 - mod2| ≤ 1 / 1000000000 := by
    unfold mod1 mod2; rw [abs_le]; constructor <;> linarith [pi_above, pi_below]
  have h := mul_le_mul hm hp (abs_nonneg _) (by norm_num)
  rw [← abs_mul] at h
  refine le_of_eq_of_le (congrArg _ ?_) (h.trans (by norm_num))
  unfold moved
  push_cast
  ring

/-- The reduction modulo `256 pi` nearly leaves the sine. -/
theorem sin_moved (x : ℝ) (hx : |x| ≤ 580000) : |Real.sin (moved x) - Real.sin x| ≤ 2 / 1000000 := by
  have h := sin_near _ _ _ (moved_near x hx) (by norm_num)
  rw [Real.sin_sub_int_mul_two_pi] at h
  linarith

/-- The reduction modulo `256 pi` nearly leaves the cosine. -/
theorem cos_moved (x : ℝ) (hx : |x| ≤ 580000) : |Real.cos (moved x) - Real.cos x| ≤ 2 / 1000000 := by
  have h := cos_near _ _ _ (moved_near x hx) (by norm_num)
  rw [Real.cos_sub_int_mul_two_pi] at h
  linarith

end Cert.Proof

end
-- ==== Proof.ArithBlock.lean ====
module

public import proofs.«01_k».proof.Proof.Gen.ArithmeticIdeal.Frame
public import proofs.«01_k».proof.Proof.Block
public import proofs.«01_k».proof.Proof.Near

/-! What one grid point of the kernel with the polynomials leaves in its block of the result. -/

@[expose] public section

set_option maxRecDepth 16384

noncomputable section

namespace Cert.Proof.Arith

open Idealize.ShloMosaic Cert.ArithmeticIdeal Cert.ArithmeticIdeal.Gen

/-- What the reduction modulo the float of pi leaves. -/
def rest (y : EReal) : EReal := y - rnd (y * Ideal.ofBits .f32 1050868099#32) * Ideal.ofBits .f32 1078530011#32

/-- The polynomial of the sine after the reduction, with the sign of the parity. -/
def sinWord (y : EReal) : EReal :=
  ((Ideal.ofBits .f32 1006682958#32 * (rest y * rest y) + Ideal.ofBits .f32 3190457521#32) * (rest y * rest y) * rest y + rest y)
    * flip (rnd (y * Ideal.ofBits .f32 1050868099#32))

/-- The polynomial of the cosine after the reduction, with the sign of the parity. -/
def cosWord (y : EReal) : EReal :=
  (((Ideal.ofBits .f32 3131728748#32 * (rest y * rest y) + Ideal.ofBits .f32 1026184519#32) * (rest y * rest y)
    + Ideal.ofBits .f32 3204447883#32) * (rest y * rest y) + 1) * flip (rnd (y * Ideal.ofBits .f32 1050868099#32))

/-- A number less a whole multiple of the two parts of `256 pi`. -/
def movedWord (y : EReal) : EReal :=
  y - rnd (y * Ideal.ofBits .f32 983759235#32) * Ideal.ofBits .f32 1145638912#32
    - rnd (y * Ideal.ofBits .f32 983759235#32) * Ideal.ofBits .f32 3138746234#32

/-- What the reduction modulo the float of pi leaves of a real. -/
theorem rest_coe (y : ℝ) : rest y = ((y - Ideal.roundHalfEven (y * invPi) * piF : ℝ) : EReal) := by
  unfold rest
  rw [word_inv_pi_real, word_pi]
  rfl

/-- The sine's polynomial on a real. -/
theorem sinWord_coe (y : ℝ) : sinWord y
    = ((sinPoly (y - Ideal.roundHalfEven (y * invPi) * piF) * (-1) ^ Ideal.roundHalfEven (y * invPi) : ℝ) : EReal) := by
  unfold sinWord
  rw [rest_coe, word_inv_pi_real, word_s1, word_s0,
    show rnd ((y : EReal) * ((10680707 / 33554432 : ℝ) : EReal)) = (((Ideal.roundHalfEven (y * invPi) : ℤ) : ℝ) : EReal) from rfl, flip_int]
  rfl

/-- The cosine's polynomial on a real. -/
theorem cosWord_coe (y : ℝ) : cosWord y
    = ((cosPoly (y - Ideal.roundHalfEven (y * invPi) * piF) * (-1) ^ Ideal.roundHalfEven (y * invPi) : ℝ) : EReal) := by
  unfold cosWord
  rw [rest_coe, word_inv_pi_real, word_c2, word_c1, word_c0,
    show rnd ((y : EReal) * ((10680707 / 33554432 : ℝ) : EReal)) = (((Ideal.roundHalfEven (y * invPi) : ℤ) : ℝ) : EReal) from rfl, flip_int]
  rfl

/-- The reduction modulo `256 pi` of a real. -/
theorem movedWord_coe (y : ℝ) : movedWord y = ((moved y : ℝ) : EReal) := by
  unfold movedWord
  rw [word_inv_mod_real, word_mod1, word_mod2]
  rfl

/-- The sinusoid that the kernel computes of a block's position at a lane. -/
def blockNear (x1 : Vec Ideal S32x200 .f32) (x3 : Vec Ideal S1x256 .f32) (b : Fin 32) (l : Fin 200) (h : Fin 512) : EReal :=
  if h.val < 128 then sinWord (x1 (ix2 b l) * x3 (ix2 0 ⟨h.val % 256, by omega⟩))
  else if h.val < 256 then sinWord (movedWord (Ideal.div (x1 (ix2 b l)) (x3 (ix2 0 ⟨h.val % 256, by omega⟩))))
  else if h.val < 384 then cosWord (x1 (ix2 b l) * x3 (ix2 0 ⟨h.val % 256, by omega⟩))
  else cosWord (movedWord (Ideal.div (x1 (ix2 b l)) (x3 (ix2 0 ⟨h.val % 256, by omega⟩))))

/-- The matmul of the one-hot rows with the combined table is the sum of the picked rows. -/
theorem emb_apply (x0 : Vec Ideal S32x200 .i32) (x2 : Vec Ideal S96x512 .f32) (hx : ∀ b l, (x0 (ix2 b l)).toNat < 32)
    (b : Fin 32) (l : Fin 200) (h : Fin 512) : k0_pay6 (k0_pay5 x0) x2 (ix3 b l h) = blockEmb x0 x2 b l h := by
  pointwise [k0_pay6, k0_pay5]
  unfold blockEmb
  refine Finset.sum_congr rfl fun k _ => ?_
  have hprev : (if h : l.val < 1 then x0 (ix2 b l) else x0 (ix2 b ⟨l.val - 1, by omega⟩)) = x0 (ix2 b ⟨l.val - 1, by omega⟩) := by
    split
    · congr 2; exact Fin.ext (by simp only; omega)
    · rfl
  rw [hprev]
  exact congrArg (· * x2 (ix2 k h)) (hot_eq l k (x0 (ix2 b l)) _ (hx _ _) (hx _ _))

/-- The first stretch of lanes: the embedding and the sine's polynomial of the position times the frequency. -/
theorem sin_lo_apply (e : FVec Ideal S32x200x512 .f32) (x1 : Vec Ideal S32x200 .f32) (x3 : Vec Ideal S1x256 .f32)
    (b : Fin 32) (l : Fin 200) (h : Fin 128) : k0_pay1 e (k0_pay16 (k0_pay11 x1 x3) (k0_pay14 x1 x3)) (ix3 b l h)
      = e (ix3 b l ⟨0 + h.val, by omega⟩) + sinWord (x1 (ix2 b l) * x3 (ix2 0 ⟨h.val, by omega⟩)) := by
  pointwise [k0_pay1, k0_pay16, k0_pay11, k0_pay14, k0_pay13, k0_pay12, k0_pay10, k0_pay8, k0_pay7]
  rfl

/-- The third stretch of lanes: the embedding and the cosine's polynomial of the position times the frequency. -/
theorem cos_lo_apply (e : FVec Ideal S32x200x512 .f32) (x1 : Vec Ideal S32x200 .f32) (x3 : Vec Ideal S1x256 .f32)
    (b : Fin 32) (l : Fin 200) (h : Fin 128) : k0_pay3 e (k0_pay17 (k0_pay11 x1 x3) (k0_pay13 x1 x3) k0_pay15) (ix3 b l h)
      = e (ix3 b l ⟨256 + h.val, by omega⟩) + cosWord (x1 (ix2 b l) * x3 (ix2 0 ⟨h.val, by omega⟩)) := by
  pointwise [k0_pay3, k0_pay17, k0_pay15, k0_pay11, k0_pay13, k0_pay12, k0_pay10, k0_pay8, k0_pay7]
  rfl

/-- The second stretch of lanes: the embedding and the sine's polynomial of the position over the period. -/
theorem sin_hi_apply (e : FVec Ideal S32x200x512 .f32) (x1 : Vec Ideal S32x200 .f32) (x3 : Vec Ideal S1x256 .f32)
    (b : Fin 32) (l : Fin 200) (h : Fin 128) :
    k0_pay2 e (k0_pay20 (k0_pay9 x1 x3)) (k0_pay23 (k0_pay9 x1 x3)) (ix3 b l h)
      = e (ix3 b l ⟨128 + h.val, by omega⟩) + sinWord (movedWord (Ideal.div (x1 (ix2 b l)) (x3 (ix2 0 ⟨128 + h.val, by omega⟩)))) := by
  pointwise [k0_pay2, k0_pay20, k0_pay23, k0_pay22, k0_pay21, k0_pay19, k0_pay18, k0_pay9, k0_pay7]
  rfl

/-- The fourth stretch of lanes: the embedding and the cosine's polynomial of the position over the period. -/
theorem cos_hi_apply (e : FVec Ideal S32x200x512 .f32) (x1 : Vec Ideal S32x200 .f32) (x3 : Vec Ideal S1x256 .f32)
    (b : Fin 32) (l : Fin 200) (h : Fin 128) :
    k0_pay4 e (k0_pay20 (k0_pay9 x1 x3)) (k0_pay22 (k0_pay9 x1 x3)) (ix3 b l h)
      = e (ix3 b l ⟨384 + h.val, by omega⟩) + cosWord (movedWord (Ideal.div (x1 (ix2 b l)) (x3 (ix2 0 ⟨128 + h.val, by omega⟩)))) := by
  pointwise [k0_pay4, k0_pay20, k0_pay22, k0_pay21, k0_pay19, k0_pay18, k0_pay9, k0_pay7]
  rfl

/-- What the body leaves in the result's block: the picked rows and the sinusoid that it computes. -/
theorem out_apply (x0 : Vec Ideal S32x200 .i32) (x1 : Vec Ideal S32x200 .f32) (x2 : Vec Ideal S96x512 .f32) (x3 : Vec Ideal S1x256 .f32)
    (hx : ∀ b l, (x0 (ix2 b l)).toNat < 32) (b : Fin 32) (l : Fin 200) (h : Fin 512) :
    out0_4 x0 x1 x2 x3 (ix3 b l h) = blockEmb x0 x2 b l h + blockNear x1 x3 b l h := by
  unfold out0_4 k0_pay27 k0_pay26 k0_pay25 k0_pay24
  have e0 : View.ld x0 r0_0 = x0 := View.ld_unit_zero (by decide) _ _
  have e1 : View.ld x1 r0_0 = x1 := View.ld_unit_zero (by decide) _ _
  have e2 : View.ld x2 r0_1 = x2 := View.ld_unit_zero (by decide) _ _
  have e3 : View.ld x3 r0_2 = x3 := View.ld_unit_zero (by decide) _ _
  rw [e0, e1, e2, e3]
  refine View.canon_apply_of_pieces (Val := Elt Ideal) (S := S32x200x512) (e := .f32)
    (fun y : S32x200x512.Idx => blockEmb x0 x2 (y 0) (y 1) (y 2) + blockNear x1 x3 (y 0) (y 1) (y 2)) _ ?_ _ (cover0_4 _ _ _ _ _)
  intro p hp x
  simp only [List.mem_cons, List.not_mem_nil, or_false] at hp
  rcases hp with rfl | rfl | rfl | rfl
  · refine piece 384 (by omega) (by decide) _ (fun b l h => blockEmb x0 x2 b l h + blockNear x1 x3 b l h) (fun b l h => ?_) x
    dsimp only
    rw [cos_hi_apply, emb_apply _ _ hx]
    refine congrArg (_ + ·) ?_
    unfold blockNear
    rw [if_neg (by simp only; omega), if_neg (by simp only; omega), if_neg (by simp only; omega)]
    congr 5
    exact Fin.ext (by simp only; omega)
  · refine piece 256 (by omega) (by decide) _ (fun b l h => blockEmb x0 x2 b l h + blockNear x1 x3 b l h) (fun b l h => ?_) x
    dsimp only
    rw [cos_lo_apply, emb_apply _ _ hx]
    refine congrArg (_ + ·) ?_
    unfold blockNear
    rw [if_neg (by simp only; omega), if_neg (by simp only; omega), if_pos (by simp only; omega)]
    congr 4
    exact Fin.ext (by simp only; omega)
  · refine piece 128 (by omega) (by decide) _ (fun b l h => blockEmb x0 x2 b l h + blockNear x1 x3 b l h) (fun b l h => ?_) x
    dsimp only
    rw [sin_hi_apply, emb_apply _ _ hx]
    refine congrArg (_ + ·) ?_
    unfold blockNear
    rw [if_neg (by simp only; omega), if_pos (by simp only; omega)]
    congr 5
    exact Fin.ext (by simp only; omega)
  · refine piece 0 (by omega) (by decide) _ (fun b l h => blockEmb x0 x2 b l h + blockNear x1 x3 b l h) (fun b l h => ?_) x
    dsimp only
    rw [sin_lo_apply, emb_apply _ _ hx]
    refine congrArg (_ + ·) ?_
    unfold blockNear
    rw [if_pos (by simp only; omega)]
    congr 4
    exact Fin.ext (by simp only; omega)

end Cert.Proof.Arith

end
-- ==== Proof.ArithValue.lean ====
module

public import proofs.«01_k».proof.Proof.Gen.ArithmeticIdeal.Value
public import proofs.«01_k».proof.Proof.ArithBlock
public import proofs.«01_k».proof.Proof.KernelValue

/-! The array that the kernel with the polynomials leaves, and its distance from the function that the reference
computes. -/

@[expose] public section

set_option maxRecDepth 16384

noncomputable section

namespace Cert.Proof.Arith

open Idealize.ShloMosaic Idealize.ShloMosaic.TcCoe Cert.ArithmeticIdeal Cert.ArithmeticIdeal.Gen
open Idealize.ShloMosaic.Pipeline (Dat)

/-- The word of a lane of the row of frequencies, as the number that it denotes. -/
def freq (k : Fin 256) : EReal := Ideal.ofBits .f32 (lit1 k)

/-- The row of frequencies. -/
def freqRow : FVec Ideal S1x256 .f32 := shapeCast S1x256 (fun i : S256.Idx => FloatOps.ofBits .f32 (lit1 (S256.rowMajor i))) shapeCasts_S256_S1x256

/-- A lane of the row of frequencies. -/
theorem freqRow_apply (k : Fin 256) : freqRow (ix2 0 k) = freq k := by
  pointwise [freqRow]
  rw [rowMajor_one]
  rfl

/-- The sinusoid that the kernel computes of a position at a lane. -/
def nearWave (x : EReal) (h : Fin 512) : EReal :=
  if h.val < 128 then sinWord (x * freq ⟨h.val % 256, by omega⟩)
  else if h.val < 256 then sinWord (movedWord (Ideal.div x (freq ⟨h.val % 256, by omega⟩)))
  else if h.val < 384 then cosWord (x * freq ⟨h.val % 256, by omega⟩)
  else cosWord (movedWord (Ideal.div x (freq ⟨h.val % 256, by omega⟩)))

/-- With the row of frequencies, a block's sinusoid is the one computed of its position. -/
theorem blockNear_eq (x1 : Vec Ideal S32x200 .f32) (b : Fin 32) (l : Fin 200) (h : Fin 512) :
    blockNear x1 freqRow b l h = nearWave (x1 (ix2 b l)) h := by
  unfold blockNear nearWave
  rw [freqRow_apply]

variable (m : (ℓ : Loc nD τ sig) → Buf (Elt Ideal) ℓ)

/-- The grid finds the combined table in its third input. -/
theorem V_table (c : Dev nD) : V m c main_v10 = combined (m ((c : Thread nD τ).loc main_arg2)) (m ((c : Thread nD τ).loc main_arg3)) smallWaves := by
  unfold V
  after_results
  rfl

/-- The grid finds the row of frequencies in its fourth input. -/
theorem V_freq (c : Dev nD) : V m c main_v11 = freqRow := by
  unfold V
  after_results
  rfl

/-- The blocks' numbers at a grid point. -/
theorem places : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0 ∧ win0_4.index t 2 = 0) := by
  decide +kernel

/-- The row of the array at row `b` of a point's block. -/
def row (t : Fin cfg0.N) (b : Fin 32) : Fin 1024 := ⟨t.val * 32 + b.val, by have : t.val < 32 := t.isLt; omega⟩

/-- A point's block of the tokens is 32 rows of them. -/
theorem tokens_block (c : Dev nD) (t : Fin cfg0.N) (b : Fin 32) (l : Fin 200) :
    iblk m c 0 t (ix2 b l) = m ((c : Thread nD τ).loc main_arg0) (ix2 (row t b) l) := by
  rw [← V_main_arg0 m c]
  refine congrArg (V m c main_arg0) (funext fun a => Fin.ext ?_)
  have e0 := (places t).1.1
  have e1 := (places t).1.2
  match a with
  | ⟨0, _⟩ => blk_simp [e0]; rfl
  | ⟨1, _⟩ => blk_simp [e1]

/-- A point's block of the positions is 32 rows of them. -/
theorem positions_block (c : Dev nD) (t : Fin cfg0.N) (b : Fin 32) (l : Fin 200) :
    iblk m c 1 t (ix2 b l) = m ((c : Thread nD τ).loc main_arg1) (ix2 (row t b) l) := by
  rw [← V_main_arg1 m c]
  refine congrArg (V m c main_arg1) (funext fun a => Fin.ext ?_)
  have e0 := (places t).2.1.1
  have e1 := (places t).2.1.2
  match a with
  | ⟨0, _⟩ => blk_simp [e0]; rfl
  | ⟨1, _⟩ => blk_simp [e1]

/-- Every point's block of the combined table is the table. -/
theorem table_block (c : Dev nD) (t : Fin cfg0.N) :
    iblk m c 2 t = combined (m ((c : Thread nD τ).loc main_arg2)) (m ((c : Thread nD τ).loc main_arg3)) smallWaves := by
  rw [← V_table m c]
  funext y
  refine congrArg (V m c main_v10) (funext fun a => Fin.ext ?_)
  have e0 := (places t).2.2.1.1
  have e1 := (places t).2.2.1.2
  match a with
  | ⟨0, _⟩ => blk_simp [e0]
  | ⟨1, _⟩ => blk_simp [e1]

/-- Every point's block of the frequencies is their row. -/
theorem freq_block (c : Dev nD) (t : Fin cfg0.N) : iblk m c 3 t = freqRow := by
  rw [← V_freq m c]
  funext y
  refine congrArg (V m c main_v11) (funext fun a => Fin.ext ?_)
  have e0 := (places t).2.2.2.1.1
  have e1 := (places t).2.2.2.1.2
  match a with
  | ⟨0, _⟩ => blk_simp [e0]
  | ⟨1, _⟩ => blk_simp [e1]

/-- Where a point's block of the result lies in it. -/
theorem result_place (t : Fin cfg0.N) (b : Fin 32) (l : Fin 200) (h : Fin 512) :
    ((win0_4.blk t).view.emb (ix3 b l h : S32x200x512.Idx) : S1024x200x512.Idx) = ix3 (row t b) l h := by
  have e0 := (places t).2.2.2.2.1
  have e1 := (places t).2.2.2.2.2.1
  have e2 := (places t).2.2.2.2.2.2
  refine funext fun a => Fin.ext ?_
  match a with
  | ⟨0, _⟩ => blk_simp [e0]; rfl
  | ⟨1, _⟩ => blk_simp [e1]
  | ⟨2, _⟩ => blk_simp [e2]

/-- The kernel's array after its grid: the embedding of the tokens and the sinusoid that it computes of the positions. -/
theorem kernel_array (c : Dev nD) (hT : InTable (m ((c : Thread nD τ).loc main_arg0))) :
    (dats m 0 c).arrAt 4 cfg0.N = fun y : S1024x200x512.Idx => embed (m ((c : Thread nD τ).loc main_arg0)) hT
      (m ((c : Thread nD τ).loc main_arg2)) (m ((c : Thread nD τ).loc main_arg3)) (y 0) (y 1) (y 2)
        + nearWave (m ((c : Thread nD τ).loc main_arg1) (ix2 (y 0) (y 1))) (y 2) := by
  refine (dats m 0 c).arrAt_eq_of_covers 4 _ (by decide +kernel) fun t hf y => ?_
  blk_simp
  rw [after0_4]
  obtain ⟨b, l, h, rfl⟩ : ∃ (b : Fin 32) (l : Fin 200) (h : Fin 512), y = ix3 b l h := ⟨y 0, y 1, y 2, eq_ix3 y⟩
  have hx : ∀ b l, (iblk m c 0 t (ix2 b l) : BitVec 32).toNat < 32 := fun b l => by rw [tokens_block]; exact hT _ _
  have hp := result_place t b l h
  refine (out_apply _ _ _ _ hx b l h).trans (Eq.trans ?_ (congrArg (fun y : S1024x200x512.Idx => embed (m ((c : Thread nD τ).loc main_arg0)) hT
      (m ((c : Thread nD τ).loc main_arg2)) (m ((c : Thread nD τ).loc main_arg3)) (y 0) (y 1) (y 2)
        + nearWave (m ((c : Thread nD τ).loc main_arg1) (ix2 (y 0) (y 1))) (y 2)) hp.symm))
  show _ = embed _ hT _ _ (row t b) l h + nearWave _ h
  rw [freq_block, blockNear_eq, positions_block, table_block]
  refine congrArg (· + _) ?_
  unfold embed
  split
  · rename_i hl
    rw [blockEmb_odd _ hx _ _ _ _ _ hl]
    simp only [tokens_block]
  · rename_i hl
    split
    · rename_i h0
      rw [blockEmb_first _ hx _ _ _ _ _ h0]
      simp only [tokens_block]
    · rename_i h0
      rw [blockEmb_even _ hx _ _ _ _ _ (by omega) (by omega)]
      simp only [tokens_block]

end Cert.Proof.Arith

end
-- ==== Proof.Distance.lean ====
module

public import proofs.«01_k».proof.Proof.ArithValue

/-! How near the sinusoid that the kernel with the polynomials computes is to the reference's, for a position between
0 and 1. -/

@[expose] public section

noncomputable section

namespace Cert.Proof.Arith

open Idealize.ShloMosaic

/-- The numerator of a word's fraction. -/
def top (w : BitVec 32) : Nat := 2 ^ 23 + (w.extractLsb' 0 23).toNat
/-- The denominator of a word's fraction. -/
def bottom (w : BitVec 32) : Nat := 2 ^ (150 - (w.extractLsb' 23 8).toNat)

/-- A word that denotes a fraction over a power of two. -/
def Plain (w : BitVec 32) : Prop :=
  (w.extractLsb' 31 1 == 1#1) = false ∧ (w.extractLsb' 23 8).toNat ≠ 0 ∧ (w.extractLsb' 23 8).toNat ≤ 150

instance (w : BitVec 32) : Decidable (Plain w) := inferInstanceAs (Decidable (_ ∧ _ ∧ _))

/-- The fraction that a plain word denotes. -/
theorem plain_value (w : BitVec 32) (h : Plain w) : Ideal.ofBits .f32 w = (((top w : ℝ) / (bottom w : ℝ) : ℝ) : EReal) :=
  word_fraction w h.1 h.2.1 h.2.2

/-- The periods and the frequencies are plain words. -/
theorem all_plain : ∀ k : Fin 256, Plain (Cert.KernelIdeal.lit0 k) ∧ Plain (Cert.ArithmeticIdeal.lit1 k) := by decide +kernel

/-- The first half of the periods: none is below 10/184, and the frequency is the reciprocal to one part in `2 ^ 23`. -/
theorem light_words : ∀ k : Fin 256, k.val < 128 → 10 * bottom (Cert.KernelIdeal.lit0 k) ≤ 184 * top (Cert.KernelIdeal.lit0 k)
    ∧ 2 ^ 23 * (top (Cert.ArithmeticIdeal.lit1 k) * top (Cert.KernelIdeal.lit0 k))
      ≤ (2 ^ 23 + 1) * (bottom (Cert.ArithmeticIdeal.lit1 k) * bottom (Cert.KernelIdeal.lit0 k))
    ∧ (2 ^ 23 - 1) * (bottom (Cert.ArithmeticIdeal.lit1 k) * bottom (Cert.KernelIdeal.lit0 k))
      ≤ 2 ^ 23 * (top (Cert.ArithmeticIdeal.lit1 k) * top (Cert.KernelIdeal.lit0 k)) := by decide +kernel

/-- The second half of the periods: none is below 1/580000, and the row holds them as they are. -/
theorem heavy_words : ∀ k : Fin 256, 128 ≤ k.val → Cert.ArithmeticIdeal.lit1 k = Cert.KernelIdeal.lit0 k
    ∧ bottom (Cert.KernelIdeal.lit0 k) ≤ 580000 * top (Cert.KernelIdeal.lit0 k) := by decide +kernel

/-- A word's numerator is positive. -/
theorem top_pos (w : BitVec 32) : (0 : ℝ) < top w := by unfold top; positivity
/-- A word's denominator is positive. -/
theorem bottom_pos (w : BitVec 32) : (0 : ℝ) < bottom w := by unfold bottom; positivity

/-- Division by a real that is not zero. -/
theorem div_real (x y : ℝ) (hy : y ≠ 0) : Ideal.div (x : EReal) (y : EReal) = ((x / y : ℝ) : EReal) := by
  rw [Ideal.div_coe hy, ← EReal.coe_mul, mul_one_div]

/-- The first half: period and frequency as reals. -/
theorem light (k : Fin 256) (hk : k.val < 128) : ∃ d f : ℝ, period k = (d : EReal) ∧ freq k = (f : EReal) ∧ 0 < d
    ∧ ∀ p : ℝ, 0 ≤ p → p ≤ 1 → |p / d| ≤ 184 / 10 ∧ |p * f - p / d| ≤ 3 / 1000000 := by
  obtain ⟨h1, h2, h3⟩ := light_words k hk
  refine ⟨_, _, plain_value _ (all_plain k).1, plain_value _ (all_plain k).2, div_pos (top_pos _) (bottom_pos _), fun p p0 p1 => ?_⟩
  have a0 := top_pos (Cert.KernelIdeal.lit0 k)
  have b0 := bottom_pos (Cert.KernelIdeal.lit0 k)
  have a1 := top_pos (Cert.ArithmeticIdeal.lit1 k)
  have b1 := bottom_pos (Cert.ArithmeticIdeal.lit1 k)
  have e1 : (10 : ℝ) * bottom (Cert.KernelIdeal.lit0 k) ≤ 184 * top (Cert.KernelIdeal.lit0 k) := by exact_mod_cast h1
  have e2 : (2 : ℝ) ^ 23 * (top (Cert.ArithmeticIdeal.lit1 k) * top (Cert.KernelIdeal.lit0 k))
      ≤ (2 ^ 23 + 1) * (bottom (Cert.ArithmeticIdeal.lit1 k) * bottom (Cert.KernelIdeal.lit0 k)) := by exact_mod_cast h2
  have e3 : ((8388607 : ℕ) : ℝ) * (bottom (Cert.ArithmeticIdeal.lit1 k) * bottom (Cert.KernelIdeal.lit0 k))
      ≤ 2 ^ 23 * (top (Cert.ArithmeticIdeal.lit1 k) * top (Cert.KernelIdeal.lit0 k)) := by exact_mod_cast h3
  generalize (top (Cert.KernelIdeal.lit0 k) : ℝ) = a at a0 e1 e2 e3 ⊢
  generalize (bottom (Cert.KernelIdeal.lit0 k) : ℝ) = b at b0 e1 e2 e3 ⊢
  generalize (top (Cert.ArithmeticIdeal.lit1 k) : ℝ) = u at a1 e2 e3 ⊢
  generalize (bottom (Cert.ArithmeticIdeal.lit1 k) : ℝ) = v at b1 e2 e3 ⊢
  have hr : |p / (a / b)| ≤ 184 / 10 := by
    rw [abs_of_nonneg (by positivity), div_le_iff₀ (by positivity), mul_div_assoc', le_div_iff₀ b0]
    have := mul_le_mul_of_nonneg_right p1 b0.le
    linarith
  refine ⟨hr, ?_⟩
  have hq : |u / v * (a / b) - 1| ≤ 1 / 2 ^ 23 := by
    have e : u / v * (a / b) - 1 = (u * a - v * b) / (v * b) := by field_simp
    have hv : 0 < v * b := mul_pos b1 b0
    rw [e, abs_div, abs_of_pos hv, div_le_iff₀ hv, abs_le]
    norm_num at e2 e3 ⊢
    constructor <;> linarith
  have e : p * (u / v) - p / (a / b) = p / (a / b) * (u / v * (a / b) - 1) := by field_simp
  rw [e, abs_mul]
  exact (mul_le_mul hr hq (abs_nonneg _) (by norm_num)).trans (by norm_num)

/-- The second half: the period as a real, and the frequency the same. -/
theorem heavy (k : Fin 256) (hk : 128 ≤ k.val) : ∃ d : ℝ, period k = (d : EReal) ∧ freq k = (d : EReal) ∧ 0 < d
    ∧ ∀ p : ℝ, 0 ≤ p → p ≤ 1 → |p / d| ≤ 580000 := by
  obtain ⟨h1, h2⟩ := heavy_words k hk
  have hp := plain_value _ (all_plain k).1
  refine ⟨_, hp, ?_, div_pos (top_pos _) (bottom_pos _), fun p p0 p1 => ?_⟩
  · unfold freq; rw [h1]; exact hp
  have a0 := top_pos (Cert.KernelIdeal.lit0 k)
  have b0 := bottom_pos (Cert.KernelIdeal.lit0 k)
  have e1 : (bottom (Cert.KernelIdeal.lit0 k) : ℝ) ≤ 580000 * top (Cert.KernelIdeal.lit0 k) := by exact_mod_cast h2
  rw [abs_of_nonneg (by positivity), div_le_iff₀ (by positivity), mul_div_assoc', le_div_iff₀ b0]
  have := mul_le_mul_of_nonneg_right p1 b0.le
  linarith

/-- The sine's polynomial of a frequency's argument is near the sine of the period's. -/
theorem sin_light (k : Fin 256) (hk : k.val < 128) (p : ℝ) (p0 : 0 ≤ p) (p1 : p ≤ 1) : ∃ w' w : ℝ,
    sinWord ((p : EReal) * freq k) = (w' : EReal) ∧ Ideal.sin (Ideal.div (p : EReal) (period k)) = (w : EReal) ∧ |w' - w| ≤ 580 / 1000000 := by
  obtain ⟨d, f, hd, hf, d0, h⟩ := light k hk
  obtain ⟨h1, h2⟩ := h p p0 p1
  refine ⟨_, Real.sin (p / d), by rw [hf, ← EReal.coe_mul, sinWord_coe], by rw [hd, div_real _ _ d0.ne']; rfl, ?_⟩
  have h3 := sin_near _ _ _ h2 (by norm_num)
  have h4 := sin_reduced_near (p * f) (by
    have := abs_add_le (p * f - p / d) (p / d)
    rw [sub_add_cancel] at this
    linarith)
  have h5 := abs_sub_le _ (Real.sin (p * f)) (Real.sin (p / d)) |>.trans (add_le_add h4 h3)
  linarith

/-- The cosine's polynomial of a frequency's argument is near the cosine of the period's. -/
theorem cos_light (k : Fin 256) (hk : k.val < 128) (p : ℝ) (p0 : 0 ≤ p) (p1 : p ≤ 1) : ∃ w' w : ℝ,
    cosWord ((p : EReal) * freq k) = (w' : EReal) ∧ Ideal.cos (Ideal.div (p : EReal) (period k)) = (w : EReal) ∧ |w' - w| ≤ 580 / 1000000 := by
  obtain ⟨d, f, hd, hf, d0, h⟩ := light k hk
  obtain ⟨h1, h2⟩ := h p p0 p1
  refine ⟨_, Real.cos (p / d), by rw [hf, ← EReal.coe_mul, cosWord_coe], by rw [hd, div_real _ _ d0.ne']; rfl, ?_⟩
  have h3 := cos_near _ _ _ h2 (by norm_num)
  have h4 := cos_reduced_near (p * f) (by
    have := abs_add_le (p * f - p / d) (p / d)
    rw [sub_add_cancel] at this
    linarith)
  have h5 := abs_sub_le _ (Real.cos (p * f)) (Real.cos (p / d)) |>.trans (add_le_add h4 h3)
  linarith

/-- The sine's polynomial after both reductions is near the sine. -/
theorem sin_heavy (k : Fin 256) (hk : 128 ≤ k.val) (p : ℝ) (p0 : 0 ≤ p) (p1 : p ≤ 1) : ∃ w' w : ℝ,
    sinWord (movedWord (Ideal.div (p : EReal) (freq k))) = (w' : EReal) ∧ Ideal.sin (Ideal.div (p : EReal) (period k)) = (w : EReal)
      ∧ |w' - w| ≤ 580 / 1000000 := by
  obtain ⟨d, hd, hf, d0, h⟩ := heavy k hk
  have h1 := h p p0 p1
  refine ⟨_, Real.sin (p / d), by rw [hf, div_real _ _ d0.ne', movedWord_coe, sinWord_coe], by rw [hd, div_real _ _ d0.ne']; rfl, ?_⟩
  have h5 := abs_sub_le _ (Real.sin (moved (p / d))) (Real.sin (p / d))
    |>.trans (add_le_add (sin_reduced_near _ (moved_bound _ h1)) (sin_moved _ h1))
  linarith

/-- The cosine's polynomial after both reductions is near the cosine. -/
theorem cos_heavy (k : Fin 256) (hk : 128 ≤ k.val) (p : ℝ) (p0 : 0 ≤ p) (p1 : p ≤ 1) : ∃ w' w : ℝ,
    cosWord (movedWord (Ideal.div (p : EReal) (freq k))) = (w' : EReal) ∧ Ideal.cos (Ideal.div (p : EReal) (period k)) = (w : EReal)
      ∧ |w' - w| ≤ 580 / 1000000 := by
  obtain ⟨d, hd, hf, d0, h⟩ := heavy k hk
  have h1 := h p p0 p1
  refine ⟨_, Real.cos (p / d), by rw [hf, div_real _ _ d0.ne', movedWord_coe, cosWord_coe], by rw [hd, div_real _ _ d0.ne']; rfl, ?_⟩
  have h5 := abs_sub_le _ (Real.cos (moved (p / d))) (Real.cos (p / d))
    |>.trans (add_le_add (cos_reduced_near _ (moved_bound _ h1)) (cos_moved _ h1))
  linarith

/-- The sinusoid that the kernel computes of a position between 0 and 1 is near the position's sinusoid. -/
theorem nearWave_near (p : ℝ) (p0 : 0 ≤ p) (p1 : p ≤ 1) (h : Fin 512) : ∃ w' w : ℝ,
    nearWave (p : EReal) h = (w' : EReal) ∧ wave (p : EReal) h = (w : EReal) ∧ |w' - w| ≤ 580 / 1000000 := by
  unfold nearWave wave
  by_cases h2 : h.val < 256
  · have e : (⟨h.val % 256, by omega⟩ : Fin 256) = ⟨h.val, h2⟩ := Fin.ext (Nat.mod_eq_of_lt h2)
    rw [e, dif_pos h2]
    by_cases h1 : h.val < 128
    · rw [if_pos h1]
      exact sin_light _ h1 p p0 p1
    · rw [if_neg h1, if_pos h2]
      exact sin_heavy _ (by show 128 ≤ h.val; omega) p p0 p1
  · have e : (⟨h.val % 256, by omega⟩ : Fin 256) = ⟨h.val - 256, by omega⟩ := Fin.ext (by show h.val % 256 = h.val - 256; omega)
    rw [e, dif_neg h2, if_neg (by omega), if_neg h2]
    by_cases h3 : h.val < 384
    · rw [if_pos h3]
      exact cos_light _ (by show h.val - 256 < 128; omega) p p0 p1
    · rw [if_neg h3]
      exact cos_heavy _ (by show 128 ≤ h.val - 256; omega) p p0 p1

/-- What is near stays near beside any embedding: neither sum exceeds the other by more than the tolerance. -/
theorem sums_near (e : EReal) (w' w : ℝ) (h : |w' - w| ≤ 580 / 1000000) :
    e + (w' : EReal) ≤ e + (w : EReal) + Ideal.ofBits .f32 974997842#32 := by
  rw [word_tolerance, add_assoc, ← EReal.coe_add]
  refine add_le_add le_rfl (EReal.coe_le_coe_iff.2 ?_)
  have := (abs_le.mp h).2
  norm_num at this ⊢
  linarith

end Cert.Proof.Arith

end
-- ==== Proof.Post.lean ====
module

public import proofs.«01_k».proof.Post_near_the_reference
public import proofs.«01_k».proof.Pre_inputs_in_range
public import proofs.«01_k».proof.Proof.RefValue
public import proofs.«01_k».proof.Proof.Pre
public import proofs.«01_k».proof.Proof.Distance

/-! What the precondition on tokens and positions says, and that the kernel with the polynomials meets the
postcondition. -/

@[expose] public section

set_option maxRecDepth 16384

noncomputable section

namespace Cert.Proof.Arith

open Idealize.ShloMosaic

/-- The shape relations that the precondition's operations take. -/
theorem pre_facts : Cert.Pre_inputs_in_range.Facts where
  bcast_S_S1024x200 := by decide
  reducesTo_S1024x200_S_d0_1 := by decide
  h_S_ := by decide

/-- The shape relations that the postcondition's operations take. -/
theorem post_facts : Cert.Post_near_the_reference.Facts where
  slicesBy_S1024x200_S1024x99_0s1_2s2 := Cert.ReferenceIdeal.Gen.slicesBy_S1024x200_S1024x99_0s1_2s2
  slicesBy_S1024x200_S1024x100_0s1_1s2 := Cert.ReferenceIdeal.Gen.slicesBy_S1024x200_S1024x100_0s1_1s2
  bcast_S_S1024x99 := Cert.ReferenceIdeal.Gen.bcast_S_S1024x99
  bcast_S1024x99_S1024x99x1_0_1 := Cert.ReferenceIdeal.Gen.bcast_S1024x99_S1024x99x1_0_1
  bcast_S_S1024x99x1 := Cert.ReferenceIdeal.Gen.bcast_S_S1024x99x1
  bcast_S1_S1x1x1_2 := Cert.ReferenceIdeal.Gen.bcast_S1_S1x1x1_2
  bcast_S1x1x1_S1024x99x1_0_1_2 := Cert.ReferenceIdeal.Gen.bcast_S1x1x1_S1024x99x1_0_1_2
  reducesTo_S1024x99x1_S1024x99_d2 := Cert.ReferenceIdeal.Gen.reducesTo_S1024x99x1_S1024x99_d2
  h_S_ := Cert.ReferenceIdeal.Gen.h_S_
  bcast_S1024x99_S1024x99x512_0_1 := Cert.ReferenceIdeal.Gen.bcast_S1024x99_S1024x99x512_0_1
  bcast_S_S1024x99x512 := Cert.ReferenceIdeal.Gen.bcast_S_S1024x99x512
  bcast_S_S1024x100 := Cert.ReferenceIdeal.Gen.bcast_S_S1024x100
  bcast_S1024x100_S1024x100x1_0_1 := Cert.ReferenceIdeal.Gen.bcast_S1024x100_S1024x100x1_0_1
  bcast_S_S1024x100x1 := Cert.ReferenceIdeal.Gen.bcast_S_S1024x100x1
  bcast_S1x1x1_S1024x100x1_0_1_2 := Cert.ReferenceIdeal.Gen.bcast_S1x1x1_S1024x100x1_0_1_2
  reducesTo_S1024x100x1_S1024x100_d2 := Cert.ReferenceIdeal.Gen.reducesTo_S1024x100x1_S1024x100_d2
  bcast_S1024x100_S1024x100x512_0_1 := Cert.ReferenceIdeal.Gen.bcast_S1024x100_S1024x100x512_0_1
  bcast_S_S1024x100x512 := Cert.ReferenceIdeal.Gen.bcast_S_S1024x100x512
  bcast_S256_S1x1x256_2 := Cert.ReferenceIdeal.Gen.bcast_S256_S1x1x256_2
  bcast_S1024x100x1_S1024x100x256_0_1_2 := Cert.ReferenceIdeal.Gen.bcast_S1024x100x1_S1024x100x256_0_1_2
  bcast_S1x1x256_S1024x100x256_0_1_2 := Cert.ReferenceIdeal.Gen.bcast_S1x1x256_S1024x100x256_0_1_2
  concatenates_S1024x100x256_S1024x100x256_S1024x100x512_d2 := Cert.ReferenceIdeal.Gen.concatenates_S1024x100x256_S1024x100x256_S1024x100x512_d2
  slices_S1024x200_S1024x1_0_0 := Cert.ReferenceIdeal.Gen.slices_S1024x200_S1024x1_0_0
  shapeCasts_S1024x1_S1024 := Cert.ReferenceIdeal.Gen.shapeCasts_S1024x1_S1024
  bcast_S_S1024 := Cert.ReferenceIdeal.Gen.bcast_S_S1024
  bcast_S1024_S1024x1_0 := Cert.ReferenceIdeal.Gen.bcast_S1024_S1024x1_0
  bcast_S_S1024x1 := Cert.ReferenceIdeal.Gen.bcast_S_S1024x1
  bcast_S1_S1x1_1 := Cert.ReferenceIdeal.Gen.bcast_S1_S1x1_1
  bcast_S1x1_S1024x1_0_1 := Cert.ReferenceIdeal.Gen.bcast_S1x1_S1024x1_0_1
  reducesTo_S1024x1_S1024_d1 := Cert.ReferenceIdeal.Gen.reducesTo_S1024x1_S1024_d1
  bcast_S1024_S1024x512_0 := Cert.ReferenceIdeal.Gen.bcast_S1024_S1024x512_0
  bcast_S_S1024x512 := Cert.ReferenceIdeal.Gen.bcast_S_S1024x512
  bcast_S1024x512_S1024x1x512_0_2 := Cert.ReferenceIdeal.Gen.bcast_S1024x512_S1024x1x512_0_2
  slices_S1024x100x512_S1024x99x512_0_0_0 := Cert.ReferenceIdeal.Gen.slices_S1024x100x512_S1024x99x512_0_0_0
  concatenates_S1024x1x512_S1024x99x512_S1024x100x512_d1 := Cert.ReferenceIdeal.Gen.concatenates_S1024x1x512_S1024x99x512_S1024x100x512_d1
  bcast_S1024x100x512_S1024x100x1x512_0_1_3 := Cert.ReferenceIdeal.Gen.bcast_S1024x100x512_S1024x100x1x512_0_1_3
  concatenates_S1024x100x1x512_S1024x100x1x512_S1024x100x2x512_d2 := Cert.ReferenceIdeal.Gen.concatenates_S1024x100x1x512_S1024x100x1x512_S1024x100x2x512_d2
  shapeCasts_S1024x100x2x512_S1024x200x512 := Cert.ReferenceIdeal.Gen.shapeCasts_S1024x100x2x512_S1024x200x512
  bcast_S1024x200_S1024x200x1_0_1 := Cert.ReferenceIdeal.Gen.bcast_S1024x200_S1024x200x1_0_1
  bcast_S1024x200x1_S1024x200x256_0_1_2 := Cert.ReferenceIdeal.Gen.bcast_S1024x200x1_S1024x200x256_0_1_2
  bcast_S1x1x256_S1024x200x256_0_1_2 := Cert.ReferenceIdeal.Gen.bcast_S1x1x256_S1024x200x256_0_1_2
  concatenates_S1024x200x256_S1024x200x256_S1024x200x512_d2 := Cert.ReferenceIdeal.Gen.concatenates_S1024x200x256_S1024x200x256_S1024x200x512_d2
  bcast_S_S1024x200x512 := by decide
  reducesTo_S1024x200x512_S_d0_1_2 := by decide
  gather_S32x512_S1024x99x1_S1024x99x512_2_0_n_n_0_2_1512_wf := Cert.ReferenceIdeal.Gen.gather_S32x512_S1024x99x1_S1024x99x512_2_0_n_n_0_2_1512_wf
  gather_S512x512_S1024x100x1_S1024x100x512_2_0_n_n_0_2_1512_wf := Cert.ReferenceIdeal.Gen.gather_S512x512_S1024x100x1_S1024x100x512_2_0_n_n_0_2_1512_wf
  gather_S32x512_S1024x1_S1024x512_1_0_n_n_0_1_1512_wf := Cert.ReferenceIdeal.Gen.gather_S32x512_S1024x1_S1024x512_1_0_n_n_0_1_1512_wf

/-- Where the precondition holds, every token is in the table. -/
theorem tokens_in [Cert.Pre_inputs_in_range.Facts] (T : IVec STok 32) (P : FVec Ideal STok .f32) (A : FVec Ideal STab .f32)
    (B : FVec Ideal SIdx .f32) (h : Cert.Pre_inputs_in_range.fn (F := Ideal) T P A B = fun _ => 1#1) : InTable T := by
  have hs : Subsingleton Cert.Pre_inputs_in_range.S_.Idx := ⟨fun a b => funext fun k => Fin.elim0 k⟩
  intro b l
  have e := (IntOp.andi_eq_one.1 (congrFun h (fun k => Fin.elim0 k))).1
  have e1 := Host.reduce_andi_all _ _ _ _ _ e (ix2 b l)
  obtain ⟨e2, e3⟩ := IntOp.andi_eq_one.1 e1
  exact word_lt _ e2 e3

/-- A comparison of extended reals that is set holds. -/
theorem le_of_cmp (x y : EReal) (h : Ideal.cmp .ole x y = 1#1) : x ≤ y := by
  by_contra hc
  simp [Ideal.cmp, hc] at h

/-- A comparison of extended reals that holds is set. -/
theorem cmp_of_le (x y : EReal) (h : x ≤ y) : Ideal.cmp .ole x y = 1#1 := by
  simp [Ideal.cmp, h]

/-- Where the precondition holds, every position is a real between 0 and 1. -/
theorem positions_in [Cert.Pre_inputs_in_range.Facts] (T : IVec STok 32) (P : FVec Ideal STok .f32) (A : FVec Ideal STab .f32)
    (B : FVec Ideal SIdx .f32) (h : Cert.Pre_inputs_in_range.fn (F := Ideal) T P A B = fun _ => 1#1) (b : Fin 1024) (l : Fin 200) :
    ∃ p : ℝ, P (ix2 b l) = (p : EReal) ∧ 0 ≤ p ∧ p ≤ 1 := by
  have hs : Subsingleton Cert.Pre_inputs_in_range.S_.Idx := ⟨fun a b => funext fun k => Fin.elim0 k⟩
  have e := (IntOp.andi_eq_one.1 (congrFun h (fun k => Fin.elim0 k))).2
  have e1 := Host.reduce_andi_all _ _ _ _ _ e (ix2 b l)
  obtain ⟨e2, e3⟩ := IntOp.andi_eq_one.1 e1
  have h0 : (0 : EReal) ≤ P (ix2 b l) := by
    have e2 : Ideal.cmp .oge (P (ix2 b l)) (Ideal.ofBits .f32 0#32) = 1#1 := e2
    rw [word_zero] at e2
    by_contra hc
    simp [Ideal.cmp, hc] at e2
  have h1 : P (ix2 b l) ≤ ((1 : ℝ) : EReal) := by
    have e3 : Ideal.cmp .ole (P (ix2 b l)) (Ideal.ofBits .f32 1065353216#32) = 1#1 := e3
    rw [word_one] at e3
    exact le_of_cmp _ _ e3
  generalize (P (ix2 b l) : EReal) = x at h0 h1 ⊢
  induction x using EReal.rec with
  | bot => exact absurd h0 (by simp)
  | top => exact absurd h1 (not_le.2 (EReal.coe_lt_top 1))
  | coe p => exact ⟨p, rfl, by exact_mod_cast h0, by exact_mod_cast h1⟩

/-- The postcondition, as a comparison of the kernel's result and the reference's operations. -/
theorem post_eq [Cert.Post_near_the_reference.Facts] (T : IVec STok 32) (P : FVec Ideal STok .f32) (A : FVec Ideal STab .f32)
    (B : FVec Ideal SIdx .f32) (out : FVec Ideal SOut .f32) :
    Cert.Post_near_the_reference.fn (F := Ideal) T P A B out
      = Host.reduce IntOp.andi (andi (cmpf .ole out (addf (Ref.answer T P A B) (broadcastInDim (s := Cert.Post_near_the_reference.S_) SOut ![] Cert.Post_near_the_reference.Facts.bcast_S_S1024x200x512 (constant (F := Ideal) _ .f32 0x3A1D4952#32))))
          (cmpf .ole (Ref.answer T P A B) (addf out (broadcastInDim (s := Cert.Post_near_the_reference.S_) SOut ![] Cert.Post_near_the_reference.Facts.bcast_S_S1024x200x512 (constant (F := Ideal) _ .f32 0x3A1D4952#32)))))
        (constantI _ 1 1#1) Cert.Post_near_the_reference.Facts.reducesTo_S1024x200x512_S_d0_1_2 Cert.Post_near_the_reference.Facts.h_S_ := by
  unfold Ref.answer Ref.posWaves Ref.interleave Ref.evenRows Ref.take1 Ref.take2 Ref.take3 Ref.wrap Ref.within Ref.evenWaves Ref.first Ref.odds Ref.evens
  rfl

/-- The embedding and the sinusoid computed of positions between 0 and 1 meet the postcondition. -/
theorem post_holds [Cert.Post_near_the_reference.Facts] (T : IVec STok 32) (P : FVec Ideal STok .f32) (A : FVec Ideal STab .f32)
    (B : FVec Ideal SIdx .f32) (hT : InTable T) (hP : ∀ b l, ∃ p : ℝ, P (ix2 b l) = (p : EReal) ∧ 0 ≤ p ∧ p ≤ 1) :
    Cert.Post_near_the_reference.fn (F := Ideal) T P A B
      (fun y : SOut.Idx => embed T hT A B (y 0) (y 1) (y 2) + nearWave (P (ix2 (y 0) (y 1))) (y 2)) = fun _ => 1#1 := by
  rw [post_eq, Ref.answer_value T P A B hT]
  funext j
  refine Host.reduce_andi_one _ _ _ _ _ rfl fun y => ?_
  obtain ⟨b, l, h, rfl⟩ : ∃ (b : Fin 1024) (l : Fin 200) (h : Fin 512), y = ix3 b l h := ⟨y 0, y 1, y 2, eq_ix3 y⟩
  obtain ⟨p, hp, p0, p1⟩ := hP b l
  obtain ⟨w', w, e', e, hw⟩ := nearWave_near p p0 p1 h
  refine IntOp.andi_eq_one.2 ⟨cmp_of_le _ _ ?_, cmp_of_le _ _ ?_⟩
  · show embed T hT A B b l h + nearWave (P (ix2 b l)) h ≤ embed T hT A B b l h + wave (P (ix2 b l)) h + Ideal.ofBits .f32 974997842#32
    rw [hp, e', e]
    exact sums_near _ _ _ hw
  · show embed T hT A B b l h + wave (P (ix2 b l)) h ≤ embed T hT A B b l h + nearWave (P (ix2 b l)) h + Ideal.ofBits .f32 974997842#32
    rw [hp, e', e]
    exact sums_near _ _ _ (by rw [abs_sub_comm]; exact hw)

end Cert.Proof.Arith

end
-- ==== Proof.lean ====
module

public import proofs.«01_k».proof.Defs
public import proofs.«01_k».proof.Proof.Gen.AsWritten.Frame
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Arithmetic.Frame
public import proofs.«01_k».proof.Proof.Gen.ArithmeticIdeal.Frame
public import proofs.«01_k».proof.Proof.Gen.ArithmeticIdeal.Value
public import proofs.«01_k».proof.Proof.KernelValue
public import proofs.«01_k».proof.Proof.RefValue
public import proofs.«01_k».proof.Proof.Pre
public import proofs.«01_k».proof.Proof.Post

/-! The certificate's claim, from the programs' runs and the two values. -/

@[expose] public section

noncomputable section

namespace Cert.Proof

open Idealize.ShloMosaic

/-- The reference runs, leaves its arguments unchanged and has no counter to leave raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩) (Cert.ReferenceIdeal.Value.run m g)

/-- Each named constant was printed for the float nearest to it. -/
theorem constants_kept : Cert.preserves_Kernel_KernelIdeal :=
  ⟨IdealRules.named_const.statement Cert.KernelIdeal.κ "pi" .f32 0x40490FDB#32 ((Real.pi : ℝ) : EReal) rfl,
    IdealRules.named_const.statement Cert.KernelIdeal.κ "m1" .f32 0x44491000#32 (((4503612398652171 / 17592186044416) * Real.pi : ℝ) : EReal) rfl,
    IdealRules.named_const.statement Cert.KernelIdeal.κ "m2" .f32 0xBB15777A#32 (((-12771281675 / 17592186044416) * Real.pi : ℝ) : EReal) rfl⟩

/-- From memories that agree on the arguments and whose tokens are in the table, the two programs end with the same array. -/
theorem values_agree [hPre_tokens_in_table : Cert.Pre_tokens_in_table.Facts] :
    Cert.algebraic_KernelIdeal_ReferenceIdeal_pre_tokens_in_table (hKernelIdeal := Cert.KernelIdeal.Gen.facts)
      (hReferenceIdeal := Cert.ReferenceIdeal.Gen.facts) := by
  intro m g m' g' hpre hargs
  refine ⟨fun c => (Cert.KernelIdeal.Gen.dats m 0 c).arrAt 4 Cert.KernelIdeal.cfg0.N, Cert.KernelIdeal.Value.run_blocks m g, ?_⟩
  refine (θ_run _ _ _).mono (fun r h c => ⟨(h c).1.trans ?_, (h c).2⟩) (Cert.ReferenceIdeal.Value.run m' g')
  have hT : InTable (m ((c.tc : Thread Cert.KernelIdeal.nD Cert.KernelIdeal.τ).loc Cert.KernelIdeal.main_arg0)) := tokens_in _ _ _ _ (hpre c)
  obtain ⟨e0, e1, e2, e3⟩ := hargs c
  have hT' : InTable (m' ((c.tc : Thread Cert.ReferenceIdeal.nD Cert.ReferenceIdeal.τ).loc Cert.ReferenceIdeal.main_arg0)) := by
    rw [e0]; exact hT
  refine (Ref.res_value m' c hT').trans (Eq.trans ?_ (kernel_array m c hT).symm)
  generalize m' ((c.tc : Thread Cert.ReferenceIdeal.nD Cert.ReferenceIdeal.τ).loc Cert.ReferenceIdeal.main_arg0) = T' at e0 hT' ⊢
  generalize m' ((c.tc : Thread Cert.ReferenceIdeal.nD Cert.ReferenceIdeal.τ).loc Cert.ReferenceIdeal.main_arg1) = P' at e1 ⊢
  generalize m' ((c.tc : Thread Cert.ReferenceIdeal.nD Cert.ReferenceIdeal.τ).loc Cert.ReferenceIdeal.main_arg2) = A' at e2 ⊢
  generalize m' ((c.tc : Thread Cert.ReferenceIdeal.nD Cert.ReferenceIdeal.τ).loc Cert.ReferenceIdeal.main_arg3) = B' at e3 ⊢
  subst e0 e1 e2 e3
  rfl

/-- From a memory whose tokens are in the table and whose positions are between 0 and 1, the program with the
polynomials keeps its arguments and ends with an array near the reference's. -/
theorem stays_near [hPre_inputs_in_range : Cert.Pre_inputs_in_range.Facts] [hPost_near_the_reference : Cert.Post_near_the_reference.Facts] :
    Cert.holds_ArithmeticIdeal_near_the_reference_pre_inputs_in_range (hArithmeticIdeal := Cert.ArithmeticIdeal.Gen.facts) := by
  intro m g hpre
  refine (θ_run _ _ _).mono (fun r h c => ?_) (Cert.ArithmeticIdeal.Value.run_blocks m g)
  obtain ⟨hout, h0, h1, h2, h3⟩ := h c
  have hT : InTable (m ((c.tc : Thread Cert.ArithmeticIdeal.nD Cert.ArithmeticIdeal.τ).loc Cert.ArithmeticIdeal.main_arg0)) :=
    Arith.tokens_in _ _ _ _ (hpre c)
  refine ⟨h0, h1, h2, h3, ?_⟩
  rw [hout.trans (Arith.kernel_array m c hT)]
  exact Arith.post_holds _ _ _ _ hT (Arith.positions_in _ _ _ _ (hpre c))

theorem claim : Cert.Claim :=
  ⟨Cert.AsWritten.Gen.facts, Cert.Kernel.Gen.facts, Cert.KernelIdeal.Gen.facts, Cert.ReferenceIdeal.Gen.facts,
    Cert.Arithmetic.Gen.facts, Cert.ArithmeticIdeal.Gen.facts, pre_facts, Arith.pre_facts, Arith.post_facts,
    fun m g _ => Cert.AsWritten.Gen.frame m g,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.Arithmetic.Gen.frame m g,
    fun m g _ => Cert.ArithmeticIdeal.Gen.frame m g,
    fun m g _ => Cert.ArithmeticIdeal.Gen.frame m g,
    constants_kept,
    @values_agree pre_facts,
    trivial,
    @stays_near Arith.pre_facts Arith.post_facts⟩

end Cert.Proof

end
